-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_encoded [hPre_encoded : Cert.Pre_encoded.Facts] (m : (ℓ : Loc Cert.KernelIdeal.nD Cert.KernelIdeal.τ Cert.KernelIdeal.sig) → Buf (Elt Ideal) ℓ) : Prop :=
  ∀ c : Dev Cert.KernelIdeal.nD,
    (Cert.Pre_encoded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_encoded [hPre_encoded : Cert.Pre_encoded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_encoded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_encoded [hKernelIdeal : Cert.KernelIdeal.Facts] [hPre_encoded : Cert.Pre_encoded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_encoded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_encoded [hReferenceIdeal : Cert.ReferenceIdeal.Facts] [hPre_encoded : Cert.Pre_encoded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_encoded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_encoded [hKernelIdeal : Cert.KernelIdeal.Facts] [hReferenceIdeal : Cert.ReferenceIdeal.Facts] [hPre_encoded : Cert.Pre_encoded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_encoded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_encoded : Cert.Pre_encoded.Facts),
    quiescent_Kernel (hKernel := hKernel)
    ∧ quiescent_KernelIdeal (hKernelIdeal := hKernelIdeal)
    ∧ quiescent_KernelIdeal_pre_encoded (hKernelIdeal := hKernelIdeal) (hPre_encoded := hPre_encoded)
    ∧ quiescent_ReferenceIdeal (hReferenceIdeal := hReferenceIdeal)
    ∧ quiescent_ReferenceIdeal_pre_encoded (hReferenceIdeal := hReferenceIdeal) (hPre_encoded := hPre_encoded)
    ∧ preserves_Kernel_KernelIdeal
    ∧ algebraic_KernelIdeal_ReferenceIdeal_pre_encoded (hKernelIdeal := hKernelIdeal) (hReferenceIdeal := hReferenceIdeal) (hPre_encoded := hPre_encoded)
-- ==== Pre_encoded.lean ====
abbrev S2x128x1024 : Shape := ⟨3, ![2, 128, 1024]⟩
abbrev S1024x12288 : Shape := ⟨2, ![1024, 12288]⟩
abbrev S24576 : Shape := ⟨1, ![24576]⟩
abbrev S1 : Shape := ⟨1, ![1]⟩
abbrev S_ : Shape := ⟨0, ![]⟩
abbrev S1x1 : Shape := ⟨2, ![1, 1]⟩

class Facts : Prop where
  bcast_S_S1 : S_.BroadcastsInDim S1 (![] : Fin 0 → Fin S1.rank)
  natLt_8_32 : 8 < 32
  bcast_S_S1024x12288 : S_.BroadcastsInDim S1024x12288 (![] : Fin 0 → Fin S1024x12288.rank)
  bcast_S1_S1x1_1 : S1.BroadcastsInDim S1x1 (![1] : Fin 1 → Fin S1x1.rank)
  bcast_S1x1_S1024x12288_0_1 : S1x1.BroadcastsInDim S1024x12288 (![0, 1] : Fin 2 → Fin S1024x12288.rank)

variable [Facts]

def fn {F : FTy → Type} [FloatOps F] (main_arg0 : FVec F S2x128x1024 .bf16) (main_arg1 : IVec S1024x12288 8) (main_arg2 : FVec F S24576 .f32) (main_arg3 : IVec S1 32) : IVec S1024x12288 1 :=
  let main_c : IVec S_ 32 := constantI S_ 32 4294967166#32
  let main_v0 : IVec S1 32 := broadcastInDim S1 ![] bcast_S_S1 main_c
  let main_v1 : IVec S1 1 := cmpi .sge main_arg3 main_v0
  let main_c_0 : IVec S_ 32 := constantI S_ 32 120#32
  let main_v2 : IVec S1 32 := broadcastInDim S1 ![] bcast_S_S1 main_c_0
  let main_v3 : IVec S1 1 := cmpi .sle main_arg3 main_v2
  let main_v4 : IVec S1 1 := andi main_v1 main_v3
  let main_v5 : IVec S1024x12288 32 := (extui 32 · natLt_8_32) main_arg1
  let main_c_1 : IVec S_ 32 := constantI S_ 32 136#32
  let main_v6 : IVec S1024x12288 32 := broadcastInDim S1024x12288 ![] bcast_S_S1024x12288 main_c_1
  let main_v7 : IVec S1024x12288 1 := cmpi .ne main_v5 main_v6
  let main_v8 : IVec S1x1 1 := broadcastInDim S1x1 ![1] bcast_S1_S1x1_1 main_v4
  let main_v9 : IVec S1024x12288 1 := broadcastInDim S1024x12288 ![0, 1] bcast_S1x1_S1024x12288_0_1 main_v8
  let main_v10 : IVec S1024x12288 1 := andi main_v9 main_v7
  main_v10
-- ==== Kernel.lean ====
abbrev S2x128x1024 : Shape := ⟨3, ![2, 128, 1024]⟩
abbrev S1024x12288 : Shape := ⟨2, ![1024, 12288]⟩
abbrev S24576 : Shape := ⟨1, ![24576]⟩
abbrev S1 : Shape := ⟨1, ![1]⟩
abbrev S256x1024 : Shape := ⟨2, ![256, 1024]⟩
abbrev S1x24576 : Shape := ⟨2, ![1, 24576]⟩
abbrev S256x24576 : Shape := ⟨2, ![256, 24576]⟩
abbrev S1024x512 : Shape := ⟨2, ![1024, 512]⟩
abbrev S1x1024 : Shape := ⟨2, ![1, 1024]⟩
abbrev S1024x128 : Shape := ⟨2, ![1024, 128]⟩
abbrev S8x128 : Shape := ⟨2, ![8, 128]⟩
abbrev S256x128 : Shape := ⟨2, ![256, 128]⟩
abbrev S1x128 : Shape := ⟨2, ![1, 128]⟩
abbrev S8x128x1 : Shape := ⟨3, ![8, 128, 1]⟩
abbrev S256x128x1 : Shape := ⟨3, ![256, 128, 1]⟩
abbrev S2x128x24576 : Shape := ⟨3, ![2, 128, 24576]⟩

abbrev nBuf : Space → Nat
  | .hbm => 8
  | .vmem => 7
  | .smem => 1
  | _ => 0

abbrev bufTy : (tb : Table) → Fin (tcTables nBuf tb) → BufTy
  | .hbm, ⟨0, _⟩ => ⟨S2x128x1024, .bf16⟩
  | .hbm, ⟨1, _⟩ => ⟨S1024x12288, .i8⟩
  | .hbm, ⟨2, _⟩ => ⟨S24576, .f32⟩
  | .hbm, ⟨3, _⟩ => ⟨S1, .i32⟩
  | .hbm, ⟨4, _⟩ => ⟨S256x1024, .bf16⟩
  | .hbm, ⟨5, _⟩ => ⟨S1x24576, .f32⟩
  | .hbm, ⟨6, _⟩ => ⟨S256x24576, .bf16⟩
  | .hbm, ⟨7, _⟩ => ⟨S2x128x24576, .bf16⟩
  | .local _ .vmem, ⟨0, _⟩ => ⟨S256x1024, .bf16⟩
  | .local _ .vmem, ⟨1, _⟩ => ⟨S1024x512, .i8⟩
  | .local _ .vmem, ⟨2, _⟩ => ⟨S1024x512, .i8⟩
  | .local _ .vmem, ⟨3, _⟩ => ⟨S1x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | .local _ .smem, ⟨0, _⟩ => ⟨S1, .i32⟩
  | _, _ => ⟨S2x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![24], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x128x1024 : Shape := ⟨3, ![2, 128, 1024]⟩
abbrev S1024x12288 : Shape := ⟨2, ![1024, 12288]⟩
abbrev S24576 : Shape := ⟨1, ![24576]⟩
abbrev S1 : Shape := ⟨1, ![1]⟩
abbrev S_ : Shape := ⟨0, ![]⟩
abbrev S2x128x12288 : Shape := ⟨3, ![2, 128, 12288]⟩
abbrev S12288 : Shape := ⟨1, ![12288]⟩
abbrev S1x1x12288 : Shape := ⟨3, ![1, 1, 12288]⟩
abbrev S2x128x12288x1 : Shape := ⟨4, ![2, 128, 12288, 1]⟩
abbrev S2x128x12288x2 : Shape := ⟨4, ![2, 128, 12288, 2]⟩
abbrev S2x128x24576 : Shape := ⟨3, ![2, 128, 24576]⟩

abbrev nBuf : Space → Nat
  | .hbm => 155
  | .vmem => 0
  | .smem => 0
  | _ => 0

abbrev hbmTy0_0 (i : Nat) : BufTy := match i % 128 with
  | 0 => ⟨S2x128x1024, .bf16⟩
  | 1 => ⟨S1024x12288, .i8⟩
  | 2 => ⟨S24576, .f32⟩
  | 3 => ⟨S1, .i32⟩
  | 4 => ⟨S_, .i32⟩
  | 5 => ⟨S_, .i32⟩
  | 6 => ⟨S_, .i32⟩
  | 7 => ⟨S_, .f32⟩
  | 8 => ⟨S_, .f32⟩
  | 9 => ⟨S_, .f32⟩
  | 10 => ⟨S1024x12288, .i32⟩
  | 11 => ⟨S_, .i32⟩
  | 12 => ⟨S1024x12288, .i32⟩
  | 13 => ⟨S1024x12288, .i32⟩
  | 14 => ⟨S_, .i32⟩
  | 15 => ⟨S1024x12288, .i32⟩
  | 16 => ⟨S1024x12288, .i32⟩
  | 17 => ⟨S_, .i32⟩
  | 18 => ⟨S1024x12288, .i32⟩
  | 19 => ⟨S1024x12288, .i1⟩
  | 20 => ⟨S_, .i32⟩
  | 21 => ⟨S1024x12288, .i32⟩
  | 22 => ⟨S1024x12288, .i1⟩
  | 23 => ⟨S_, .i32⟩
  | 24 => ⟨S1024x12288, .i32⟩
  | 25 => ⟨S1024x12288, .i32⟩
  | 26 => ⟨S_, .i32⟩
  | 27 => ⟨S1024x12288, .i32⟩
  | 28 => ⟨S1024x12288, .i1⟩
  | 29 => ⟨S_, .i32⟩
  | 30 => ⟨S1024x12288, .i32⟩
  | 31 => ⟨S1024x12288, .i32⟩
  | 32 => ⟨S_, .i32⟩
  | 33 => ⟨S1024x12288, .i32⟩
  | 34 => ⟨S1024x12288, .i1⟩
  | 35 => ⟨S_, .f32⟩
  | 36 => ⟨S_, .f32⟩
  | 37 => ⟨S1024x12288, .f32⟩
  | 38 => ⟨S1024x12288, .f32⟩
  | 39 => ⟨S1024x12288, .f32⟩
  | 40 => ⟨S_, .i32⟩
  | 41 => ⟨S1024x12288, .i32⟩
  | 42 => ⟨S1024x12288, .i32⟩
  | 43 => ⟨S_, .i32⟩
  | 44 => ⟨S1024x12288, .i32⟩
  | 45 => ⟨S1024x12288, .i1⟩
  | 46 => ⟨S_, .f32⟩
  | 47 => ⟨S_, .f32⟩
  | 48 => ⟨S1024x12288, .f32⟩
  | 49 => ⟨S1024x12288, .f32⟩
  | 50 => ⟨S1024x12288, .f32⟩
  | 51 => ⟨S_, .i32⟩
  | 52 => ⟨S1024x12288, .i32⟩
  | 53 => ⟨S1024x12288, .i32⟩
  | 54 => ⟨S_, .i32⟩
  | 55 => ⟨S1024x12288, .i32⟩
  | 56 => ⟨S1024x12288, .i1⟩
  | 57 => ⟨S_, .f32⟩
  | 58 => ⟨S_, .f32⟩
  | 59 => ⟨S1024x12288, .f32⟩
  | 60 => ⟨S1024x12288, .f32⟩
  | 61 => ⟨S1024x12288, .f32⟩
  | 62 => ⟨S1024x12288, .f32⟩
  | 63 => ⟨S1024x12288, .f32⟩
  | 64 => ⟨S1024x12288, .f32⟩
  | 65 => ⟨S1024x12288, .f32⟩
  | 66 => ⟨S1024x12288, .f32⟩
  | 67 => ⟨S1024x12288, .f32⟩
  | 68 => ⟨S_, .i32⟩
  | 69 => ⟨S1024x12288, .i32⟩
  | 70 => ⟨S1024x12288, .i1⟩
  | 71 => ⟨S_, .i32⟩
  | 72 => ⟨S1024x12288, .i32⟩
  | 73 => ⟨S1024x12288, .i32⟩
  | 74 => ⟨S1024x12288, .i32⟩
  | 75 => ⟨S1024x12288, .f32⟩
  | 76 => ⟨S1024x12288, .f32⟩
  | 77 => ⟨S_, .f32⟩
  | 78 => ⟨S1024x12288, .f32⟩
  | 79 => ⟨S1024x12288, .f32⟩
  | 80 => ⟨S_, .i32⟩
  | 81 => ⟨S1024x12288, .i32⟩
  | 82 => ⟨S1024x12288, .i32⟩
  | 83 => ⟨S_, .i32⟩
  | 84 => ⟨S1024x12288, .i32⟩
  | 85 => ⟨S1024x12288, .i1⟩
  | 86 => ⟨S_, .i32⟩
  | 87 => ⟨S1024x12288, .i32⟩
  | 88 => ⟨S1024x12288, .i32⟩
  | 89 => ⟨S_, .i32⟩
  | 90 => ⟨S1024x12288, .i32⟩
  | 91 => ⟨S1024x12288, .i1⟩
  | 92 => ⟨S_, .f32⟩
  | 93 => ⟨S_, .f32⟩
  | 94 => ⟨S1024x12288, .f32⟩
  | 95 => ⟨S1024x12288, .f32⟩
  | 96 => ⟨S1024x12288, .f32⟩
  | 97 => ⟨S_, .i32⟩
  | 98 => ⟨S1024x12288, .i32⟩
  | 99 => ⟨S1024x12288, .i32⟩
  | 100 => ⟨S_, .i32⟩
  | 101 => ⟨S1024x12288, .i32⟩
  | 102 => ⟨S1024x12288, .i1⟩
  | 103 => ⟨S_, .f32⟩
  | 104 => ⟨S_, .f32⟩
  | 105 => ⟨S1024x12288, .f32⟩
  | 106 => ⟨S1024x12288, .f32⟩
  | 107 => ⟨S1024x12288, .f32⟩
  | 108 => ⟨S_, .i32⟩
  | 109 => ⟨S1024x12288, .i32⟩
  | 110 => ⟨S1024x12288, .i32⟩
  | 111 => ⟨S_, .i32⟩
  | 112 => ⟨S1024x12288, .i32⟩
  | 113 => ⟨S1024x12288, .i1⟩
  | 114 => ⟨S_, .f32⟩
  | 115 => ⟨S_, .f32⟩
  | 116 => ⟨S1024x12288, .f32⟩
  | 117 => ⟨S1024x12288, .f32⟩
  | 118 => ⟨S1024x12288, .f32⟩
  | 119 => ⟨S1024x12288, .f32⟩
  | 120 => ⟨S1024x12288, .f32⟩
  | 121 => ⟨S1024x12288, .f32⟩
  | 122 => ⟨S1024x12288, .f32⟩
  | 123 => ⟨S1024x12288, .f32⟩
  | 124 => ⟨S1024x12288, .f32⟩
  | 125 => ⟨S_, .i32⟩
  | 126 => ⟨S1024x12288, .i32⟩
  | 127 => ⟨S1024x12288, .i1⟩
  | _ => ⟨S2x128x1024, .bf16⟩

abbrev hbmTy0_1 (i : Nat) : BufTy := match i % 128 with
  | 0 => ⟨S_, .i32⟩
  | 1 => ⟨S1024x12288, .i32⟩
  | 2 => ⟨S1024x12288, .i32⟩
  | 3 => ⟨S1024x12288, .i32⟩
  | 4 => ⟨S1024x12288, .f32⟩
  | 5 => ⟨S1024x12288, .f32⟩
  | 6 => ⟨S_, .f32⟩
  | 7 => ⟨S1024x12288, .f32⟩
  | 8 => ⟨S1024x12288, .f32⟩
  | 9 => ⟨S1024x12288, .bf16⟩
  | 10 => ⟨S1024x12288, .bf16⟩
  | 11 => ⟨S2x128x12288, .f32⟩
  | 12 => ⟨S2x128x12288, .f32⟩
  | 13 => ⟨S12288, .f32⟩
  | 14 => ⟨S1x1x12288, .f32⟩
  | 15 => ⟨S2x128x12288, .f32⟩
  | 16 => ⟨S2x128x12288, .f32⟩
  | 17 => ⟨S2x128x12288, .bf16⟩
  | 18 => ⟨S12288, .f32⟩
  | 19 => ⟨S1x1x12288, .f32⟩
  | 20 => ⟨S2x128x12288, .f32⟩
  | 21 => ⟨S2x128x12288, .f32⟩
  | 22 => ⟨S2x128x12288, .bf16⟩
  | 23 => ⟨S2x128x12288x1, .bf16⟩
  | 24 => ⟨S2x128x12288x1, .bf16⟩
  | 25 => ⟨S2x128x12288x2, .bf16⟩
  | 26 => ⟨S2x128x24576, .bf16⟩
  | _ => ⟨S2x128x1024, .bf16⟩

abbrev hbmTy (i : Nat) : BufTy := match i / 128 with
  | 0 => hbmTy0_0 i
  | 1 => hbmTy0_1 i
  | _ => ⟨S2x128x1024, .bf16⟩

abbrev bufTy : (tb : Table) → Fin (tcTables nBuf tb) → BufTy
  | .hbm, ⟨i, _⟩ => hbmTy i
  | _, _ => ⟨S2x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_c_5 : Ref sig .tc := ⟨.hbm, 26, rfl⟩
abbrev main_v15 : Ref sig .tc := ⟨.hbm, 27, rfl⟩
abbrev main_v16 : Ref sig .tc := ⟨.hbm, 28, rfl⟩
abbrev main_c_6 : Ref sig .tc := ⟨.hbm, 29, rfl⟩
abbrev main_v17 : Ref sig .tc := ⟨.hbm, 30, rfl⟩
abbrev main_v18 : Ref sig .tc := ⟨.hbm, 31, rfl⟩
abbrev main_c_7 : Ref sig .tc := ⟨.hbm, 32, rfl⟩
abbrev main_v19 : Ref sig .tc := ⟨.hbm, 33, rfl⟩
abbrev main_v20 : Ref sig .tc := ⟨.hbm, 34, rfl⟩
abbrev main_cst_8 : Ref sig .tc := ⟨.hbm, 35, rfl⟩
abbrev main_cst_9 : Ref sig .tc := ⟨.hbm, 36, rfl⟩
abbrev main_call0_v0 : Ref sig .tc := ⟨.hbm, 37, rfl⟩
abbrev main_call0_v1 : Ref sig .tc := ⟨.hbm, 38, rfl⟩
abbrev main_v21 : Ref sig .tc := ⟨.hbm, 39, rfl⟩
abbrev main_c_10 : Ref sig .tc := ⟨.hbm, 40, rfl⟩
abbrev main_v22 : Ref sig .tc := ⟨.hbm, 41, rfl⟩
abbrev main_v23 : Ref sig .tc := ⟨.hbm, 42, rfl⟩
abbrev main_c_11 : Ref sig .tc := ⟨.hbm, 43, rfl⟩
abbrev main_v24 : Ref sig .tc := ⟨.hbm, 44, rfl⟩
abbrev main_v25 : Ref sig .tc := ⟨.hbm, 45, rfl⟩
abbrev main_cst_12 : Ref sig .tc := ⟨.hbm, 46, rfl⟩
abbrev main_cst_13 : Ref sig .tc := ⟨.hbm, 47, rfl⟩
abbrev main_call1_v0 : Ref sig .tc := ⟨.hbm, 48, rfl⟩
abbrev main_call1_v1 : Ref sig .tc := ⟨.hbm, 49, rfl⟩
abbrev main_v26 : Ref sig .tc := ⟨.hbm, 50, rfl⟩
abbrev main_c_14 : Ref sig .tc := ⟨.hbm, 51, rfl⟩
abbrev main_v27 : Ref sig .tc := ⟨.hbm, 52, rfl⟩
abbrev main_v28 : Ref sig .tc := ⟨.hbm, 53, rfl⟩
abbrev main_c_15 : Ref sig .tc := ⟨.hbm, 54, rfl⟩
abbrev main_v29 : Ref sig .tc := ⟨.hbm, 55, rfl⟩
abbrev main_v30 : Ref sig .tc := ⟨.hbm, 56, rfl⟩
abbrev main_cst_16 : Ref sig .tc := ⟨.hbm, 57, rfl⟩
abbrev main_cst_17 : Ref sig .tc := ⟨.hbm, 58, rfl⟩
abbrev main_call2_v0 : Ref sig .tc := ⟨.hbm, 59, rfl⟩
abbrev main_call2_v1 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_18 : Ref sig .tc := ⟨.hbm, 68, rfl⟩
abbrev main_v38 : Ref sig .tc := ⟨.hbm, 69, rfl⟩
abbrev main_v39 : Ref sig .tc := ⟨.hbm, 70, rfl⟩
abbrev main_c_19 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_20 : Ref sig .tc := ⟨.hbm, 77, rfl⟩
abbrev main_call6_v0 : Ref sig .tc := ⟨.hbm, 78, rfl⟩
abbrev main_v45 : Ref sig .tc := ⟨.hbm, 79, rfl⟩
abbrev main_c_21 : Ref sig .tc := ⟨.hbm, 80, rfl⟩
abbrev main_v46 : Ref sig .tc := ⟨.hbm, 81, rfl⟩
abbrev main_v47 : Ref sig .tc := ⟨.hbm, 82, rfl⟩
abbrev main_c_22 : Ref sig .tc := ⟨.hbm, 83, rfl⟩
abbrev main_v48 : Ref sig .tc := ⟨.hbm, 84, rfl⟩
abbrev main_v49 : Ref sig .tc := ⟨.hbm, 85, rfl⟩
abbrev main_c_23 : Ref sig .tc := ⟨.hbm, 86, rfl⟩
abbrev main_v50 : Ref sig .tc := ⟨.hbm, 87, rfl⟩
abbrev main_v51 : Ref sig .tc := ⟨.hbm, 88, rfl⟩
abbrev main_c_24 : Ref sig .tc := ⟨.hbm, 89, rfl⟩
abbrev main_v52 : Ref sig .tc := ⟨.hbm, 90, rfl⟩
abbrev main_v53 : Ref sig .tc := ⟨.hbm, 91, rfl⟩
abbrev main_cst_25 : Ref sig .tc := ⟨.hbm, 92, rfl⟩
abbrev main_cst_26 : Ref sig .tc := ⟨.hbm, 93, rfl⟩
abbrev main_call7_v0 : Ref sig .tc := ⟨.hbm, 94, rfl⟩
abbrev main_call7_v1 : Ref sig .tc := ⟨.hbm, 95, rfl⟩
abbrev main_v54 : Ref sig .tc := ⟨.hbm, 96, rfl⟩
abbrev main_c_27 : Ref sig .tc := ⟨.hbm, 97, rfl⟩
abbrev main_v55 : Ref sig .tc := ⟨.hbm, 98, rfl⟩
abbrev main_v56 : Ref sig .tc := ⟨.hbm, 99, rfl⟩
abbrev main_c_28 : Ref sig .tc := ⟨.hbm, 100, rfl⟩
abbrev main_v57 : Ref sig .tc := ⟨.hbm, 101, rfl⟩
abbrev main_v58 : Ref sig .tc := ⟨.hbm, 102, rfl⟩
abbrev main_cst_29 : Ref sig .tc := ⟨.hbm, 103, rfl⟩
abbrev main_cst_30 : Ref sig .tc := ⟨.hbm, 104, rfl⟩
abbrev main_call8_v0 : Ref sig .tc := ⟨.hbm, 105, rfl⟩
abbrev main_call8_v1 : Ref sig .tc := ⟨.hbm, 106, rfl⟩
abbrev main_v59 : Ref sig .tc := ⟨.hbm, 107, rfl⟩
abbrev main_c_31 : Ref sig .tc := ⟨.hbm, 108, rfl⟩
abbrev main_v60 : Ref sig .tc := ⟨.hbm, 109, rfl⟩
abbrev main_v61 : Ref sig .tc := ⟨.hbm, 110, rfl⟩
abbrev main_c_32 : Ref sig .tc := ⟨.hbm, 111, rfl⟩
abbrev main_v62 : Ref sig .tc := ⟨.hbm, 112, rfl⟩
abbrev main_v63 : Ref sig .tc := ⟨.hbm, 113, rfl⟩
abbrev main_cst_33 : Ref sig .tc := ⟨.hbm, 114, rfl⟩
abbrev main_cst_34 : Ref sig .tc := ⟨.hbm, 115, rfl⟩
abbrev main_call9_v0 : Ref sig .tc := ⟨.hbm, 116, rfl⟩
abbrev main_call9_v1 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_c_35 : Ref sig .tc := ⟨.hbm, 125, rfl⟩
abbrev main_v71 : Ref sig .tc := ⟨.hbm, 126, rfl⟩
abbrev main_v72 : Ref sig .tc := ⟨.hbm, 127, rfl⟩
abbrev main_c_36 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_cst_37 : Ref sig .tc := ⟨.hbm, 134, rfl⟩
abbrev main_call13_v0 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩

abbrev nD : Nat := 1
abbrev τ : Topo := Topo.v7x

variable {F : FTy → Type} [FloatOps F]
-- ==== Proof.Weight.lean ====
/-
  ONE BYTE OF CODES, DECODED TWICE. A byte holds two 4-bit codes, the even weight's low and the odd weight's high. The kernel
  decodes it on bytes and 16-bit words (each code in the upper half of a byte, an outlier by writing a bf16's sign, exponent and
  top fraction bit), the reference by arithmetic on the codes. Here: both decodings as functions of one byte, and that the
  kernel's weight is sixteen times the reference's wherever the byte does not name both weights victims and the exponent
  bias is in range (`evenWeight_eq`, `oddWeight_eq`).
-/
module

public import Idealize.ShloMosaic.PureOps
public import Idealize.ShloMosaic.PureOps.Ideal.Laws

@[expose] public section

set_option maxRecDepth 16384

noncomputable section

namespace Cert.Proof.Olive

open Idealize.ShloMosaic

/-! ## The kernel's decoding of a byte -/

/-- The even code in the upper half of a byte. -/
def evenByte (w : BitVec 8) : BitVec 8 := (w <<< 4) &&& 240#8

/-- The odd code in the upper half of a byte. -/
def oddByte (w : BitVec 8) : BitVec 8 := w &&& 240#8

/-- The exponent bias, clipped and placed in a bf16's exponent field, with the sign bit set. -/
def biasWord (b : BitVec 32) : BitVec 16 :=
  (Scalar.addi (Scalar.shli (Scalar.addi (Scalar.minsi 120#32 (Scalar.maxsi 4294967166#32 b)) 131#32) 7#32) 32768#32).setWidth 16

/-- The bf16 word that the kernel builds for an outlier. -/
def outlierWord (b : BitVec 32) (w : BitVec 8) : BitVec 16 :=
  IntOp.addi (IntOp.andi (IntOp.shli .vector ((evenByte w ^^^ oddByte w).signExtend 16) 2#16) 33216#16) (biasWord b)

/-- A code byte read as a number. -/
abbrev num (v : BitVec 8) : Ideal .bf16 := FloatOps.sitofp (F := Ideal) .bf16 v

/-- Whether a code byte, read as a number, is the victim's. -/
abbrev isVictim (v : BitVec 8) : BitVec 1 :=
  FloatOps.cmpf (F := Ideal) .oeq (num v) (FloatOps.ofBits (F := Ideal) .bf16 0xC300#16)

/-- The kernel's weight: of the code byte `own`, beside the code byte `other`, with `out` the outlier's word. -/
def kernelWeight (own other : BitVec 8) (out : BitVec 16) : Ideal .bf16 :=
  Scalar.select (isVictim other) (FloatOps.ofBits (F := Ideal) .bf16 out)
    (Scalar.select (isVictim own) (FloatOps.ofBits (F := Ideal) .bf16 0x0000#16) (num own))

/-- The kernel's even weight of a byte of codes. -/
def evenWeight (b : BitVec 32) (w : BitVec 8) : Ideal .bf16 := kernelWeight (evenByte w) (oddByte w) (outlierWord b w)

/-- The kernel's odd weight of a byte of codes. -/
def oddWeight (b : BitVec 32) (w : BitVec 8) : Ideal .bf16 := kernelWeight (oddByte w) (evenByte w) (outlierWord b w)

/-! ## The reference's decoding of a byte -/

/-- The even code. -/
def lowCode (w : BitVec 8) : BitVec 32 := IntOp.andi (w.setWidth 32) 15#32

/-- The odd code. -/
def highCode (w : BitVec 8) : BitVec 32 := IntOp.shrsi .host (w.setWidth 32) 4#32

/-- An f32 pattern as a number. -/
abbrev lit (v : BitVec 32) : Ideal .f32 := FloatOps.ofBits (F := Ideal) .f32 v

/-- The power of two that scales the outliers. -/
def scaleOf (b : BitVec 32) : Ideal .f32 :=
  FloatOps.hostPowf (F := Ideal) (lit 0x40000000#32) (FloatOps.sitofp (F := Ideal) .f32 (IntOp.subi b 1#32))

/-- Whether bit `k` (given as a mask) of a code is set. -/
abbrev hasBit (c k : BitVec 32) : BitVec 1 := IntOp.cmpi .ne (IntOp.andi c k) 0#32

/-- An outlier's magnitude. -/
def magnitude (c : BitVec 32) (p : Ideal .f32) : Ideal .f32 :=
  FloatOps.mulf (F := Ideal)
    (FloatOps.mulf (F := Ideal) (Scalar.select (hasBit c 1#32) (lit 0x40400000#32) (lit 0x40000000#32))
      (FloatOps.mulf (F := Ideal) (Scalar.select (hasBit c 4#32) (lit 0x40800000#32) (lit 0x3F800000#32))
        (Scalar.select (hasBit c 2#32) (lit 0x40000000#32) (lit 0x3F800000#32)))) p

/-- An outlier. -/
def outlier (c : BitVec 32) (p : Ideal .f32) : Ideal .f32 :=
  Scalar.select (hasBit c 8#32) (FloatOps.hostNegf (F := Ideal) (magnitude c p)) (magnitude c p)

/-- A code read as a signed 4-bit number. -/
def signed (c : BitVec 32) : Ideal .f32 :=
  FloatOps.sitofp (F := Ideal) .f32 (Scalar.select (IntOp.cmpi .sge c 8#32) (IntOp.subi c 16#32) c)

/-- The reference's weight of the code `own`, beside the code `other`. -/
def refWeight (own other : BitVec 32) (p : Ideal .f32) : Ideal .f32 :=
  Scalar.select (IntOp.cmpi .eq own 8#32) (lit 0x00000000#32)
    (Scalar.select (IntOp.cmpi .eq other 8#32) (outlier own p) (signed own))

/-! ## The constants as numbers -/

/-- The pattern of zero. -/
theorem lit_zero : lit 0x00000000#32 = ((0 : ℝ) : EReal) := by
  show Ideal.ofBits .f32 _ = _
  simp [Ideal.ofBits, Ideal.ieee]
/-- The pattern of one. -/
theorem lit_one : lit 0x3F800000#32 = ((1 : ℝ) : EReal) := by
  show Ideal.ofBits .f32 _ = _
  simp [Ideal.ofBits, Ideal.ieee, -EReal.coe_mul]; norm_num
/-- The pattern of two. -/
theorem lit_two : lit 0x40000000#32 = ((2 : ℝ) : EReal) := by
  show Ideal.ofBits .f32 _ = _
  simp [Ideal.ofBits, Ideal.ieee, -EReal.coe_mul]; norm_num
/-- The pattern of three. -/
theorem lit_three : lit 0x40400000#32 = ((3 : ℝ) : EReal) := by
  show Ideal.ofBits .f32 _ = _
  simp [Ideal.ofBits, Ideal.ieee, -EReal.coe_mul]; norm_num
/-- The pattern of four. -/
theorem lit_four : lit 0x40800000#32 = ((4 : ℝ) : EReal) := by
  show Ideal.ofBits .f32 _ = _
  simp [Ideal.ofBits, Ideal.ieee, -EReal.coe_mul]; norm_num
/-- The pattern of one sixteenth. -/
theorem lit_sixteenth : lit 0x3D800000#32 = ((1 / 16 : ℝ) : EReal) := by
  show Ideal.ofBits .f32 _ = _
  simp [Ideal.ofBits, Ideal.ieee, -EReal.coe_mul]; norm_num
/-- The bf16 pattern of zero. -/
theorem bf16_zero : FloatOps.ofBits (F := Ideal) .bf16 0x0000#16 = ((0 : ℝ) : EReal) := by
  show Ideal.ofBits .bf16 _ = _
  simp [Ideal.ofBits, Ideal.ieee]
/-- The bf16 pattern of the victim's code byte as a number. -/
theorem bf16_victim : FloatOps.ofBits (F := Ideal) .bf16 0xC300#16 = ((-128 : ℝ) : EReal) := by
  show Ideal.ofBits .bf16 _ = _
  simp [Ideal.ofBits, Ideal.ieee, -EReal.coe_mul]

/-! ## Ordinary codes -/

/-- A code byte reads as the victim's number iff it is the victim's byte. -/
theorem isVictim_eq (v : BitVec 8) : isVictim v = BitVec.ofBool (decide (v = 128#8)) := by
  have h : (num v = FloatOps.ofBits (F := Ideal) .bf16 0xC300#16) ↔ v = 128#8 := by
    rw [bf16_victim]
    show (((v.toInt : ℝ) : EReal) = _) ↔ _
    rw [EReal.coe_eq_coe_iff]
    constructor
    · intro e
      have e' : v.toInt = (128#8).toInt := by
        have : (v.toInt : ℝ) = ((-128 : ℤ) : ℝ) := by rw [e]; norm_num
        exact Int.cast_injective this
      exact BitVec.eq_of_toInt_eq e'
    · rintro rfl
      norm_num [BitVec.toInt]
  show BitVec.ofBool (decide (num v = _)) = _
  exact congrArg BitVec.ofBool (decide_eq_decide.mpr h)

/-- The victim's code, in the reference's words and in the kernel's. -/
theorem victim_iff : ∀ w : BitVec 8,
    IntOp.cmpi .eq (lowCode w) 8#32 = BitVec.ofBool (decide (evenByte w = 128#8))
    ∧ IntOp.cmpi .eq (highCode w) 8#32 = BitVec.ofBool (decide (oddByte w = 128#8))
    ∧ (evenByte w = 128#8 → oddByte w = 128#8 → w = 136#8) := by decide +kernel

/-- A code byte, read signed, is sixteen times the code read signed. -/
theorem toInt_iff : ∀ w : BitVec 8,
    (evenByte w).toInt = 16 * (Scalar.select (IntOp.cmpi .sge (lowCode w) 8#32) (IntOp.subi (lowCode w) 16#32) (lowCode w)).toInt
    ∧ (oddByte w).toInt = 16 * (Scalar.select (IntOp.cmpi .sge (highCode w) 8#32) (IntOp.subi (highCode w) 16#32) (highCode w)).toInt := by
  decide +kernel

/-- The same of the numbers. -/
theorem num_eq (v : BitVec 8) (c : BitVec 32)
    (h : v.toInt = 16 * (Scalar.select (IntOp.cmpi .sge c 8#32) (IntOp.subi c 16#32) c).toInt) :
    num v = ((16 : ℝ) : EReal) * signed c := by
  show ((v.toInt : ℝ) : EReal) = _ * (((Scalar.select (IntOp.cmpi .sge c 8#32) (IntOp.subi c 16#32) c).toInt : ℝ) : EReal)
  rw [h, ← EReal.coe_mul]
  push_cast
  rfl

/-! ## Outliers -/

/-- The bias whose biased exponent is `n`. -/
abbrev biasOf (n : ℕ) : BitVec 32 := BitVec.ofInt 32 ((n : ℤ) - 131)

/-- The fields of an outlier's word: sign, exponent and fraction, for every bias and every code `c`. -/
abbrev Fields (n c : ℕ) (v : BitVec 16) : Prop :=
  (v.extractLsb' 15 1 == 1#1) = decide (8 ≤ c) ∧ (v.extractLsb' 7 8).toNat = n + c / 2 % 4 ∧ (v.extractLsb' 0 7).toNat = 64 * (c % 2)

/-- An even outlier's word (the odd code is the victim's). -/
theorem even_fields : ∀ n : Fin 252, 1 ≤ n.val → ∀ c : Fin 16, c.val ≠ 8 → Fields n c (outlierWord (biasOf n) (BitVec.ofNat 8 (128 + c.val))) := by
  decide +kernel

/-- An odd outlier's word (the even code is the victim's). -/
theorem odd_fields : ∀ n : Fin 252, 1 ≤ n.val → ∀ c : Fin 16, c.val ≠ 8 → Fields n c (outlierWord (biasOf n) (BitVec.ofNat 8 (16 * c.val + 8))) := by
  decide +kernel

/-- A byte whose odd code is the victim's, and one whose even code is. -/
theorem byte_of_victim : ∀ w : BitVec 8,
    (oddByte w = 128#8 → ∃ c : Fin 16, w = BitVec.ofNat 8 (128 + c.val) ∧ lowCode w = BitVec.ofNat 32 c.val ∧ (c.val = 8 → evenByte w = 128#8))
    ∧ (evenByte w = 128#8 → ∃ c : Fin 16, w = BitVec.ofNat 8 (16 * c.val + 8) ∧ highCode w = BitVec.ofNat 32 c.val ∧ (c.val = 8 → oddByte w = 128#8)) := by
  decide +kernel

/-- The bits of a code, in the reference's words. -/
theorem code_bits : ∀ c : Fin 16, hasBit (BitVec.ofNat 32 c.val) 1#32 = BitVec.ofBool (decide (c.val % 2 = 1))
    ∧ hasBit (BitVec.ofNat 32 c.val) 2#32 = BitVec.ofBool (decide (c.val / 2 % 2 = 1))
    ∧ hasBit (BitVec.ofNat 32 c.val) 4#32 = BitVec.ofBool (decide (c.val / 4 % 2 = 1))
    ∧ hasBit (BitVec.ofNat 32 c.val) 8#32 = BitVec.ofBool (decide (8 ≤ c.val)) := by decide +kernel

/-- The exponent of the scale. -/
theorem scale_toInt : ∀ n : Fin 252, (IntOp.subi (biasOf n) 1#32).toInt = (n.val : ℤ) - 132 := by decide +kernel

/-- The scale is a power of two. -/
theorem scaleOf_eq (n : Fin 252) : scaleOf (biasOf n) = (((2 : ℝ) ^ ((n.val : ℤ) - 132) : ℝ) : EReal) := by
  show Ideal.pow (lit 0x40000000#32) ((((IntOp.subi (biasOf n) 1#32).toInt : ℝ)) : EReal) = _
  rw [lit_two, scale_toInt]
  show ((Real.rpow 2 (((n.val : ℤ) - 132 : ℤ) : ℝ) : ℝ) : EReal) = _
  exact congrArg _ (Real.rpow_intCast 2 _)

/-- A select on a decided bit. -/
theorem select_ofBool {α : Type} (q : Prop) [Decidable q] (x y : α) : Scalar.select (BitVec.ofBool (decide q)) x y = if q then x else y := by
  by_cases h : q <;> simp [h, Scalar.select]

/-- A select of two reals is a real. -/
theorem select_coe (q : Prop) [Decidable q] (x y : ℝ) :
    Scalar.select (BitVec.ofBool (decide q)) ((x : ℝ) : EReal) ((y : ℝ) : EReal) = (((if q then x else y) : ℝ) : EReal) := by
  rw [select_ofBool]
  split <;> rfl

/-- An outlier of the reference is a real number. -/
theorem outlier_eq (c : Fin 16) (n : Fin 252) : outlier (BitVec.ofNat 32 c.val) (scaleOf (biasOf n))
    = (((if 8 ≤ c.val then -1 else 1) * ((2 + (c.val % 2 : ℕ)) * (2 : ℝ) ^ (c.val / 2 % 4) * (2 : ℝ) ^ ((n.val : ℤ) - 132)) : ℝ) : EReal) := by
  obtain ⟨h1, h2, h4, h8⟩ := code_bits c
  have hm : magnitude (BitVec.ofNat 32 c.val) (scaleOf (biasOf n))
      = (((2 + (c.val % 2 : ℕ)) * (2 : ℝ) ^ (c.val / 2 % 4) * (2 : ℝ) ^ ((n.val : ℤ) - 132) : ℝ) : EReal) := by
    unfold magnitude
    rw [h1, h2, h4, scaleOf_eq, lit_one, lit_two, lit_three, lit_four]
    erw [select_coe, select_coe, select_coe]
    show (_ * (_ * _)) * _ = ((_ : ℝ) : EReal)
    rw [← EReal.coe_mul, ← EReal.coe_mul, ← EReal.coe_mul, EReal.coe_eq_coe_iff]
    congr 1
    fin_cases c <;> norm_num
  unfold outlier
  rw [hm, h8, select_ofBool]
  split
  · show - ((_ : ℝ) : EReal) = _
    rw [← EReal.coe_neg]
    congr 1
    ring
  · congr 1
    ring

/-- A word with these fields is sixteen times the reference's outlier. -/
theorem ofBits_outlier (n : Fin 252) (hn : 1 ≤ n.val) (c : Fin 16) (v : BitVec 16) (h : Fields n c v) :
    FloatOps.ofBits (F := Ideal) .bf16 v = ((16 : ℝ) : EReal) * outlier (BitVec.ofNat 32 c.val) (scaleOf (biasOf n)) := by
  obtain ⟨hs, he, hf⟩ := h
  rw [outlier_eq, ← EReal.coe_mul]
  show Ideal.ofBits .bf16 v = _
  simp only [Ideal.ofBits, Ideal.ieee]
  rw [hs, he, hf]
  have hn' := n.isLt
  rw [if_neg (by omega), if_neg (by omega), EReal.coe_eq_coe_iff]
  have e : ((n.val + c.val / 2 % 4 : ℕ) : ℤ) - (2 ^ (8 - 1) - 1) - (7 : ℕ) = ((n.val : ℤ) - 132) + ((c.val / 2 % 4 : ℕ) : ℤ) + (-2) := by
    push_cast; norm_num; ring
  rw [e, zpow_add₀ (by norm_num), zpow_add₀ (by norm_num), zpow_natCast]
  by_cases h8 : 8 ≤ c.val <;> simp only [h8, decide_true, decide_false, if_true, if_false, Bool.false_eq_true] <;> push_cast <;>
    norm_num <;> ring

/-! ## The two decodings agree -/

/-- A bias in range is one of the 251 the outliers' fields are computed for. -/
theorem bias_cases (b : BitVec 32) (h1 : -130 ≤ b.toInt) (h2 : b.toInt ≤ 120) : ∃ n : Fin 252, 1 ≤ n.val ∧ b = biasOf n := by
  refine ⟨⟨(b.toInt + 131).toNat, by omega⟩, by show 1 ≤ (b.toInt + 131).toNat; omega, ?_⟩
  have e : (((b.toInt + 131).toNat : ℕ) : ℤ) - 131 = b.toInt := by omega
  show b = BitVec.ofInt 32 _
  rw [e]
  exact (BitVec.ofInt_toInt).symm

/-- Sixteen times nothing. -/
theorem sixteen_zero : ((16 : ℝ) : EReal) * lit 0x00000000#32 = FloatOps.ofBits (F := Ideal) .bf16 0x0000#16 := by
  rw [lit_zero, bf16_zero, ← EReal.coe_mul, mul_zero]

/-- The kernel's even weight is sixteen times the reference's. -/
theorem evenWeight_eq (b : BitVec 32) (h1 : -130 ≤ b.toInt) (h2 : b.toInt ≤ 120) (w : BitVec 8) (hw : w ≠ 136#8) :
    evenWeight b w = ((16 : ℝ) : EReal) * refWeight (lowCode w) (highCode w) (scaleOf b) := by
  obtain ⟨n, hn, rfl⟩ := bias_cases b h1 h2
  obtain ⟨he, ho, hb⟩ := victim_iff w
  unfold evenWeight kernelWeight refWeight
  rw [isVictim_eq, isVictim_eq, he, ho]
  simp only [select_ofBool]
  by_cases hO : oddByte w = 128#8
  · have hE : evenByte w ≠ 128#8 := fun h => hw (hb h hO)
    rw [if_pos hO, if_neg hE, if_pos hO]
    obtain ⟨c, hc, hl, h8⟩ := (byte_of_victim w).1 hO
    rw [hl]
    refine ofBits_outlier n hn c _ ?_
    have hf := even_fields n hn c (fun h => hE (h8 h))
    rw [← hc] at hf
    exact hf
  · rw [if_neg hO, if_neg hO]
    by_cases hE : evenByte w = 128#8
    · rw [if_pos hE, if_pos hE]; exact sixteen_zero.symm
    · rw [if_neg hE, if_neg hE]; exact num_eq _ _ (toInt_iff w).1

/-- The kernel's odd weight is sixteen times the reference's. -/
theorem oddWeight_eq (b : BitVec 32) (h1 : -130 ≤ b.toInt) (h2 : b.toInt ≤ 120) (w : BitVec 8) (hw : w ≠ 136#8) :
    oddWeight b w = ((16 : ℝ) : EReal) * refWeight (highCode w) (lowCode w) (scaleOf b) := by
  obtain ⟨n, hn, rfl⟩ := bias_cases b h1 h2
  obtain ⟨he, ho, hb⟩ := victim_iff w
  unfold oddWeight kernelWeight refWeight
  rw [isVictim_eq, isVictim_eq, he, ho]
  simp only [select_ofBool]
  by_cases hE : evenByte w = 128#8
  · have hO : oddByte w ≠ 128#8 := fun h => hw (hb hE h)
    rw [if_pos hE, if_neg hO, if_pos hE]
    obtain ⟨c, hc, hl, h8⟩ := (byte_of_victim w).2 hE
    rw [hl]
    refine ofBits_outlier n hn c _ ?_
    have hf := odd_fields n hn c (fun h => hO (h8 h))
    rw [← hc] at hf
    exact hf
  · rw [if_neg hE, if_neg hE]
    by_cases hO : oddByte w = 128#8
    · rw [if_pos hO, if_pos hO]; exact sixteen_zero.symm
    · rw [if_neg hO, if_neg hO]; exact num_eq _ _ (toInt_iff w).2

end Cert.Proof.Olive

end
-- ==== Proof.Words.lean ====
/-
  CODES THROUGH WORDS. The kernel works on four rows of code bytes at a time, read as one 32-bit word, and reads the word back as
  four bytes. Its shift and masks keep the bytes apart: each byte of the result depends on the same byte of the operand alone.
-/
module

public import proofs.«01_k».proof.Proof.Weight
public import Idealize.ShloMosaic.Lib.BitcastFour

@[expose] public section

set_option maxRecDepth 16384

noncomputable section

namespace Cert.Proof.Olive

open Idealize.ShloMosaic Idealize.ShloMosaic.ValueIdx

/-- Words read as bytes: bit `q` of row `p` of a lane is bit `8 (p % 4) + q` of the word in row `p / 4`. -/
theorem bitcast_32_8_getLsbD_ix2 {R r n : Nat} (y : (⟨2, ![r, n]⟩ : Shape).Idx → BitVec 32)
    (h : (⟨2, ![r, n]⟩ : Shape).Bitcasts 32 ⟨2, ![R, n]⟩ 8) (p : Fin R) (l : Fin n) (q : Nat) (hq : q < 8) (a : Fin r)
    (ha : a.val = p.val / 4) :
    (bitcast ⟨2, ![R, n]⟩ 8 y h (ix2 p l)).getLsbD q = (y (ix2 a l)).getLsbD (8 * (p.val % 4) + q) := by
  rw [bitcast_getLsbD y h _ q hq (by decide)]
  have er : Shape.row ⟨2, ![R, n]⟩ (ix2 p l) = p.val := rfl
  have e1 : (p.val * 8 + q) / 32 = p.val / 4 := by omega
  have e2 : (p.val * 8 + q) % 32 = 8 * (p.val % 4) + q := by omega
  have e3 : (Shape.row ⟨2, ![R, n]⟩ (ix2 p l) * 8 + q) % 32 = 8 * (p.val % 4) + q := by rw [er]; exact e2
  rw [e3]
  congr 2
  funext c
  match c with
  | ⟨0, _⟩ => exact Fin.ext ((h.srcIdx_row _ _ _ ⟨0, Nat.zero_lt_two⟩ rfl).trans (((congrArg (fun z => (z * 8 + q) / 32) er).trans e1).trans ha.symm))
  | ⟨1, _⟩ => exact Fin.ext (h.srcIdx_other _ _ _ ⟨1, Nat.one_lt_two⟩ (by show ¬ 1 + 2 = 2; omega))

/-- A map of words that acts on each byte by itself, between the two readings, is the map of the bytes. -/
theorem bytewise {R r n : Nat} (x : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (f : BitVec 32 → BitVec 32) (g : BitVec 8 → BitVec 8)
    (hfg : ∀ (v : BitVec 32) (k : Fin 4) (j : Fin 8), (f v).getLsbD (8 * k.val + j.val) = (g (v.extractLsb' (8 * k.val) 8)).getLsbD j.val)
    (hr : 4 * r = R) (p : Fin R) (l : Fin n) :
    bitcast ⟨2, ![R, n]⟩ 8 (fun i => f (bitcast ⟨2, ![r, n]⟩ 32 x h i)) h' (ix2 p l) = g (x (ix2 p l)) := by
  have ha : p.val / 4 < r := by have := p.isLt; omega
  have hx : (bitcast ⟨2, ![r, n]⟩ 32 x h (ix2 ⟨p.val / 4, ha⟩ l)).extractLsb' (8 * (p.val % 4)) 8 = x (ix2 p l) := by
    apply BitVec.eq_of_getLsbD_eq
    intro q hq
    rw [BitVec.getLsbD_extractLsb',
      bitcast_8_32_getLsbD_ix2 x h ⟨p.val / 4, ha⟩ l _ (by omega) p (by show p.val = 4 * (p.val / 4) + _; omega)]
    have e : (8 * (p.val % 4) + q) % 8 = q := by omega
    simp [e, hq]
  apply BitVec.eq_of_getLsbD_eq
  intro q hq
  rw [bitcast_32_8_getLsbD_ix2 _ h' p l q hq ⟨p.val / 4, ha⟩ rfl, ← hx]
  exact hfg _ ⟨p.val % 4, by omega⟩ ⟨q, hq⟩

/-- The bits of the mask that keeps each byte's upper half. -/
theorem mask_bits : ∀ (k : Fin 4) (j : Fin 8), (4042322160#32).getLsbD (8 * k.val + j.val) = decide (4 ≤ j.val)
    ∧ (240#8).getLsbD j.val = decide (4 ≤ j.val) := by decide

/-- The even codes: the word shifted and masked is each byte shifted and masked. -/
theorem even_bytewise (v : BitVec 32) (k : Fin 4) (j : Fin 8) :
    (IntOp.andi (IntOp.shli .vector v 4#32) 4042322160#32).getLsbD (8 * k.val + j.val)
      = (evenByte (v.extractLsb' (8 * k.val) 8)).getLsbD j.val := by
  obtain ⟨h1, h2⟩ := mask_bits k j
  have hs : IntOp.shli .vector v 4#32 = v <<< 4 := rfl
  have hk := k.isLt
  have hj := j.isLt
  rw [hs]
  simp only [IntOp.andi, evenByte, BitVec.getLsbD_and, BitVec.getLsbD_shiftLeft, h1, h2]
  by_cases h : 4 ≤ j.val
  · rw [BitVec.getLsbD_extractLsb']
    have e : 8 * k.val + j.val - 4 = 8 * k.val + (j.val - 4) := by omega
    simp [h, e, show 8 * k.val + j.val < 32 by omega, show ¬ 8 * k.val + j.val < 4 by omega, show ¬ j.val < 4 by omega, show j.val - 4 < 8 by omega]
  · simp [h]

/-- The odd codes: the word masked is each byte masked. -/
theorem odd_bytewise (v : BitVec 32) (k : Fin 4) (j : Fin 8) :
    (IntOp.andi v 4042322160#32).getLsbD (8 * k.val + j.val) = (oddByte (v.extractLsb' (8 * k.val) 8)).getLsbD j.val := by
  obtain ⟨h1, h2⟩ := mask_bits k j
  simp only [IntOp.andi, oddByte, BitVec.getLsbD_and, h1, h2, BitVec.getLsbD_extractLsb', j.isLt, decide_true, Bool.true_and]

/-- The two together, for the outliers. -/
theorem xor_bytewise (v : BitVec 32) (k : Fin 4) (j : Fin 8) :
    (IntOp.xori (IntOp.andi (IntOp.shli .vector v 4#32) 4042322160#32) (IntOp.andi v 4042322160#32)).getLsbD (8 * k.val + j.val)
      = (evenByte (v.extractLsb' (8 * k.val) 8) ^^^ oddByte (v.extractLsb' (8 * k.val) 8)).getLsbD j.val := by
  have he := even_bytewise v k j
  have ho := odd_bytewise v k j
  simp only [IntOp.xori, BitVec.getLsbD_xor]
  rw [he, ho]

end Cert.Proof.Olive

end
-- ==== Proof.Chunk.lean ====
/-
  ONE CHUNK OF THE KERNEL'S BLOCK. The block's body treats four chunks of 128 byte columns alike: a chunk's two products are
  scaled, rounded and interleaved into two pieces of 128 result columns. Here: the two pieces as functions of what the chunk reads
  (`lowPiece`, `highPiece`), and each read at an element, at the ideal values.
-/
module

public import proofs.«01_k».proof.Proof.Words
public import proofs.«01_k».proof.Proof.Gen.KernelIdeal.Skeleton
public import Idealize.ShloMosaic.Lib.Pipeline.Value
public import Idealize.ShloMosaic.Lib.MatmulPlain
public import Idealize.ShloMosaic.Lib.Pointwise.Tactic

@[expose] public section

set_option maxRecDepth 16384

noncomputable section

namespace Cert.Proof.Olive

open Idealize.ShloMosaic hiding ix2
open Idealize.ShloMosaic.ValueIdx Cert.KernelIdeal Cert.KernelIdeal.Gen

/-! ## The pieces -/

section Pieces

variable {F : FTy → Type} [FloatOps F]

/-- The lane numbers of a block of scales. -/
abbrev lanesS : IVec S8x128 32 := iota .tc S8x128 32 [1] iota_S8x128_d1_w32
/-- The lane numbers of a piece. -/
abbrev lanesM : IVec S256x128 32 := iota .tc S256x128 32 [1] iota_S256x128_d1_w32

/-- The product with the even weights. -/
def accEven (b : Elt F .i32) (x : Vec F S256x1024 .bf16) (w : Vec F S1024x128 .i8) : FVec F S256x128 .f32 :=
  k0_pay14 (k0_pay3 x) (k0_pay8 w) (k0_pay9 w) (k0_pay10 b w) k0_pay11 (k0_pay12 w)

/-- The product with the odd weights. -/
def accOdd (b : Elt F .i32) (x : Vec F S256x1024 .bf16) (w : Vec F S1024x128 .i8) : FVec F S256x128 .f32 :=
  k0_pay15 (k0_pay3 x) (k0_pay9 w) (k0_pay10 b w) k0_pay11 (k0_pay12 w)

/-- The even results, scaled. -/
def yEven (b : Elt F .i32) (x : Vec F S256x1024 .bf16) (w : Vec F S1024x128 .i8) (s0 s1 : Vec F S1x128 .f32) : FVec F S256x128 .f32 :=
  k0_pay20 (accEven b x w) (k0_pay19 lanesS s0 s1)

/-- The odd results, scaled. -/
def yOdd (b : Elt F .i32) (x : Vec F S256x1024 .bf16) (w : Vec F S1024x128 .i8) (s0 s1 : Vec F S1x128 .f32) : FVec F S256x128 .f32 :=
  k0_pay21 lanesS (accOdd b x w) (k0_pay16 s0) (k0_pay17 s1) (k0_pay18 lanesS) 64#32

/-- The chunk's first 128 result columns. -/
def lowPiece (b : Elt F .i32) (x : Vec F S256x1024 .bf16) (w : Vec F S1024x128 .i8) (s0 s1 : Vec F S1x128 .f32) : FVec F S256x128 .bf16 :=
  k0_pay27 k0_pay4 (yOdd b x w s0 s1) (k0_pay22 lanesM) (k0_pay24 lanesM (accEven b x w) (k0_pay19 lanesS s0 s1)) (k0_pay25 lanesM)
    k0_pay26

/-- The chunk's last 128 result columns. -/
def highPiece (b : Elt F .i32) (x : Vec F S256x1024 .bf16) (w : Vec F S1024x128 .i8) (s0 s1 : Vec F S1x128 .f32) : FVec F S256x128 .bf16 :=
  k0_pay28 k0_pay4 (yEven b x w s0 s1) (yOdd b x w s0 s1) (k0_pay23 lanesM)

end Pieces

/-! ## The weights and the products at an element -/

variable (b : BitVec 32) (x : FVec Ideal S256x1024 .bf16) (w : IVec S1024x128 8) (s0 s1 : FVec Ideal S1x128 .f32)

/-- The even code bytes. -/
theorem even_bytes (p : Fin 1024) (l : Fin 128) :
    bitcast S1024x128 8 (k0_pay6 (F := Ideal) w) bitcasts_S256x128_w32_S1024x128_w8 (ix2 p l) = evenByte (w (ix2 p l)) :=
  bytewise w bitcasts_S1024x128_w8_S256x128_w32 bitcasts_S256x128_w32_S1024x128_w8
    (fun v => IntOp.andi (IntOp.shli .vector v 4#32) 4042322160#32) evenByte even_bytewise rfl p l

/-- The odd code bytes. -/
theorem odd_bytes (p : Fin 1024) (l : Fin 128) :
    bitcast S1024x128 8 (k0_pay7 (F := Ideal) w) bitcasts_S256x128_w32_S1024x128_w8 (ix2 p l) = oddByte (w (ix2 p l)) :=
  bytewise w bitcasts_S1024x128_w8_S256x128_w32 bitcasts_S256x128_w32_S1024x128_w8
    (fun v => IntOp.andi v 4042322160#32) oddByte odd_bytewise rfl p l

/-- The outliers' bytes. -/
theorem xor_bytes (p : Fin 1024) (l : Fin 128) :
    bitcast S1024x128 8 (xori (k0_pay6 (F := Ideal) w) (k0_pay7 (F := Ideal) w)) bitcasts_S256x128_w32_S1024x128_w8 (ix2 p l)
      = evenByte (w (ix2 p l)) ^^^ oddByte (w (ix2 p l)) :=
  bytewise w bitcasts_S1024x128_w8_S256x128_w32 bitcasts_S256x128_w32_S1024x128_w8
    (fun v => IntOp.xori (IntOp.andi (IntOp.shli .vector v 4#32) 4042322160#32) (IntOp.andi v 4042322160#32))
    (fun v => evenByte v ^^^ oddByte v) xor_bytewise rfl p l

/-- The even codes as numbers. -/
theorem pay8_apply (p : Fin 1024) (l : Fin 128) : k0_pay8 (F := Ideal) w (ix2 p l) = num (evenByte (w (ix2 p l))) :=
  congrArg num (even_bytes w p l)

/-- The odd codes as numbers. -/
theorem pay9_apply (p : Fin 1024) (l : Fin 128) : k0_pay9 (F := Ideal) w (ix2 p l) = num (oddByte (w (ix2 p l))) :=
  congrArg num (odd_bytes w p l)

/-- The outliers. -/
theorem pay10_apply (p : Fin 1024) (l : Fin 128) :
    k0_pay10 (F := Ideal) b w (ix2 p l) = FloatOps.ofBits (F := Ideal) .bf16 (outlierWord b (w (ix2 p l))) :=
  congrArg (fun v : BitVec 8 => FloatOps.ofBits (F := Ideal) .bf16
    (IntOp.addi (IntOp.andi (IntOp.shli .vector (v.signExtend 16) 2#16) 33216#16) (biasWord b))) (xor_bytes w p l)

/-- The even weights as the kernel selects them. -/
theorem evenWeights_apply (p : Fin 1024) (l : Fin 128) :
    select (k0_pay13 (k0_pay9 (F := Ideal) w)) (k0_pay10 (F := Ideal) b w) (select (k0_pay12 (F := Ideal) w) k0_pay11 (k0_pay8 (F := Ideal) w))
      (ix2 p l) = evenWeight b (w (ix2 p l)) := by
  have h8 := pay8_apply w p l
  have h9 := pay9_apply w p l
  have h10 := pay10_apply b w p l
  show Scalar.select (FloatOps.cmpf (F := Ideal) .oeq (k0_pay9 (F := Ideal) w (ix2 p l)) (FloatOps.ofBits (F := Ideal) .bf16 0xC300#16))
    (k0_pay10 (F := Ideal) b w (ix2 p l))
    (Scalar.select (FloatOps.cmpf (F := Ideal) .oeq (k0_pay8 (F := Ideal) w (ix2 p l)) (FloatOps.ofBits (F := Ideal) .bf16 0xC300#16))
      (FloatOps.ofBits (F := Ideal) .bf16 0x0000#16) (k0_pay8 (F := Ideal) w (ix2 p l))) = _
  rw [h8, h9, h10]
  rfl

/-- The odd weights as the kernel selects them. -/
theorem oddWeights_apply (p : Fin 1024) (l : Fin 128) :
    select (k0_pay12 (F := Ideal) w) (k0_pay10 (F := Ideal) b w) (select (k0_pay13 (k0_pay9 (F := Ideal) w)) k0_pay11 (k0_pay9 (F := Ideal) w))
      (ix2 p l) = oddWeight b (w (ix2 p l)) := by
  have h8 := pay8_apply w p l
  have h9 := pay9_apply w p l
  have h10 := pay10_apply b w p l
  show Scalar.select (FloatOps.cmpf (F := Ideal) .oeq (k0_pay8 (F := Ideal) w (ix2 p l)) (FloatOps.ofBits (F := Ideal) .bf16 0xC300#16))
    (k0_pay10 (F := Ideal) b w (ix2 p l))
    (Scalar.select (FloatOps.cmpf (F := Ideal) .oeq (k0_pay9 (F := Ideal) w (ix2 p l)) (FloatOps.ofBits (F := Ideal) .bf16 0xC300#16))
      (FloatOps.ofBits (F := Ideal) .bf16 0x0000#16) (k0_pay9 (F := Ideal) w (ix2 p l))) = _
  rw [h8, h9, h10]
  rfl

/-- A product with the weights `W`, from a zero accumulator, at an element. -/
theorem product_apply (W : FVec Ideal S1024x128 .bf16) (r : Fin 256) (l : Fin 128) :
    matmul (F := Ideal) dot_S256x1024_S1024x128_S256x128_1_0_0_1_n_n none (k0_pay3 (F := Ideal) x) W
      (constant (F := Ideal) S256x128 .f32 0x00000000#32) (ix2 r l) = ∑ k : Fin 1024, x (ix2 r k) * W (ix2 k l) := by
  have hx : k0_pay3 (F := Ideal) x = x := shapeCast_self x _
  rw [hx]
  refine (Ideal.matmul_plain_apply none x W (constant (F := Ideal) S256x128 .f32 0x00000000#32) r l).trans ?_
  rw [show (constant (F := Ideal) S256x128 .f32 0x00000000#32 (ix2 r l)) = (0 : EReal) from lit_zero, zero_add]

/-- The product with the even weights at an element. -/
theorem accEven_apply (r : Fin 256) (l : Fin 128) :
    accEven (F := Ideal) b x w (ix2 r l) = ∑ k : Fin 1024, x (ix2 r k) * evenWeight b (w (ix2 k l)) :=
  (product_apply x _ r l).trans (Finset.sum_congr rfl fun k _ => congrArg (x (ix2 r k) * ·) (evenWeights_apply b w k l))

/-- The product with the odd weights at an element. -/
theorem accOdd_apply (r : Fin 256) (l : Fin 128) :
    accOdd (F := Ideal) b x w (ix2 r l) = ∑ k : Fin 1024, x (ix2 r k) * oddWeight b (w (ix2 k l)) :=
  (product_apply x _ r l).trans (Finset.sum_congr rfl fun k _ => congrArg (x (ix2 r k) * ·) (oddWeights_apply b w k l))

end Cert.Proof.Olive

end
-- ==== Proof.Pieces.lean ====
/-
  A CHUNK'S TWO PIECES AT AN ELEMENT. The scales of even and of odd columns are gathered from the two rows of scales, and the
  scaled results gathered back so that even and odd columns alternate. The lane arithmetic of both cancels: result column `q` of a
  piece is the product of code column `q / 2` (or `64 + q / 2` in the last piece) with the weights of `q`'s parity, times the
  scale in lane `q`, divided by sixteen.
-/
module

public import proofs.«01_k».proof.Proof.Chunk

@[expose] public section

set_option maxRecDepth 16384

noncomputable section

namespace Cert.Proof.Olive

open Idealize.ShloMosaic hiding ix2
open Idealize.ShloMosaic.ValueIdx Cert.KernelIdeal Cert.KernelIdeal.Gen

/-! ## Lane arithmetic -/

/-- A gather's lane number, a negative one taken from the end. -/
def fixup (v : BitVec 32) : BitVec 32 := Scalar.select (IntOp.cmpi .slt v 0#32) (IntOp.addi v 128#32) v

/-- The lanes gathered from, lane by lane. -/
theorem lane_facts : ∀ q : Fin 128,
    (fixup (IntOp.andi (IntOp.muli (BitVec.ofNat 32 q.val) 2#32) 127#32)).toNat % 128 = 2 * q.val % 128
    ∧ (fixup (IntOp.addi (IntOp.andi (IntOp.muli (BitVec.ofNat 32 q.val) 2#32) 127#32) 1#32)).toNat % 128 = (2 * q.val + 1) % 128
    ∧ (fixup (IntOp.shrsi .vector (BitVec.ofNat 32 q.val) 1#32)).toNat % 128 = q.val / 2
    ∧ (fixup (IntOp.addi (IntOp.shrsi .vector (BitVec.ofNat 32 q.val) 1#32) 64#32)).toNat % 128 = 64 + q.val / 2
    ∧ IntOp.cmpi .slt (BitVec.ofNat 32 q.val) 64#32 = BitVec.ofBool (decide (q.val < 64))
    ∧ IntOp.cmpi .eq (IntOp.andi (BitVec.ofNat 32 q.val) 1#32) 0#32 = BitVec.ofBool (decide (q.val % 2 = 0)) := by decide +kernel

/-- A lane number read off a block. -/
theorem lanesS_apply (r : Fin 8) (l : Fin 128) : lanesS (ix2 r l) = BitVec.ofNat 32 l.val :=
  congrArg (BitVec.ofNat 32) (show 0 * 128 + l.val = l.val by omega)

/-- A lane number read off a piece. -/
theorem lanesM_apply (r : Fin 256) (l : Fin 128) : lanesM (ix2 r l) = BitVec.ofNat 32 l.val :=
  congrArg (BitVec.ofNat 32) (show 0 * 128 + l.val = l.val by omega)

/-- A gather along the lanes, through the lane numbers' fix-up and casts, at an element. -/
theorem gather_apply {M : ℕ} {α : Type} (a : (⟨2, ![M, 128]⟩ : Shape).Idx → α) (v c0 c128 : IVec ⟨2, ![M, 128]⟩ 32)
    (h : (⟨2, ![M, 128]⟩ : Shape).ShapeCasts ⟨3, ![M, 128, 1]⟩) (h' : (⟨3, ![M, 128, 1]⟩ : Shape).ShapeCasts ⟨2, ![M, 128]⟩)
    (hc0 : c0 = fun _ => 0#32) (hc128 : c128 = fun _ => 128#32) (r : Fin M) (l k : Fin 128)
    (hk : (fixup (v (ix2 r l))).toNat % 128 = k.val) :
    dynamicGather (s := ⟨2, ![M, 128]⟩) 1 a
      (shapeCast ⟨2, ![M, 128]⟩ (shapeCast ⟨3, ![M, 128, 1]⟩ (select (cmpi .slt v c0) (addi v c128) v) h) h') (ix2 r l) = a (ix2 r k) := by
  rw [shapeCast_shapeCast]
  subst hc0 hc128
  refine congrArg a (funext fun d => ?_)
  match d with
  | ⟨0, _⟩ => rfl
  | ⟨1, _⟩ => exact Fin.ext hk

/-! ## The scales -/

variable (b : BitVec 32) (x : FVec Ideal S256x1024 .bf16) (w : IVec S1024x128 8) (s0 s1 : FVec Ideal S1x128 .f32)

/-- One sixteenth. -/
abbrev sixteenth : Ideal .f32 := lit 0x3D800000#32

/-- The first row of scales, over sixteen. -/
theorem pay16_apply (r : Fin 8) (l : Fin 128) : k0_pay16 (F := Ideal) s0 (ix2 r l) = s0 (ix2 0 l) * sixteenth := by
  have e : k0_pay16 (F := Ideal) s0
      = mulf (broadcastTo S8x128 s0 broadcasts_S1x128_S8x128) (broadcast S8x128 (Scalar.ofBits (F := Ideal) .f32 0x3D800000#32)) := by
    unfold k0_pay16
    dsimp only
    rw [shapeCast_self, shapeCast_self]
  rw [e]
  refine congrArg (fun z => s0 z * sixteenth) (funext fun d => ?_)
  match d with
  | ⟨0, _⟩ => rfl
  | ⟨1, _⟩ => rfl

/-- The second row of scales, over sixteen. -/
theorem pay17_apply (r : Fin 8) (l : Fin 128) : k0_pay17 (F := Ideal) s1 (ix2 r l) = s1 (ix2 0 l) * sixteenth :=
  pay16_apply s1 r l

/-- The scale of an even column, from the two rows of scales. -/
theorem evenScale_apply (l : Fin 128) : k0_pay19 (F := Ideal) lanesS s0 s1 (ix2 0 l)
    = if l.val < 64 then s0 (ix2 0 ⟨2 * l.val % 128, by omega⟩) * sixteenth else s1 (ix2 0 ⟨2 * l.val % 128, by omega⟩) * sixteenth := by
  obtain ⟨h, -, -, -, hs, -⟩ := lane_facts l
  have hl := lanesS_apply 0 l
  have hi : (fixup (k0_pay18 lanesS (ix2 0 l))).toNat % 128 = (⟨2 * l.val % 128, by omega⟩ : Fin 128).val := by
    show (fixup (IntOp.andi (IntOp.muli (lanesS (ix2 0 l)) 2#32) 127#32)).toNat % 128 = _
    rw [hl]; exact h
  have g0 := gather_apply (k0_pay16 (F := Ideal) s0) (k0_pay18 lanesS) _ _ shapeCasts_S8x128_S8x128x1 shapeCasts_S8x128x1_S8x128
    rfl rfl 0 l _ hi
  have g1 := gather_apply (k0_pay17 (F := Ideal) s1) (k0_pay18 lanesS) _ _ shapeCasts_S8x128_S8x128x1 shapeCasts_S8x128x1_S8x128
    rfl rfl 0 l _ hi
  rw [pay16_apply] at g0
  rw [pay17_apply] at g1
  have e : k0_pay19 (F := Ideal) lanesS s0 s1 (ix2 0 l) = Scalar.select (IntOp.cmpi .slt (lanesS (ix2 0 l)) 64#32) _ _ :=
    congrArg₂ (Scalar.select _) g0 g1
  rw [e, hl, hs, select_ofBool]

/-- The scales of odd columns, from the two rows of scales. -/
def oddScales (s0 s1 : FVec Ideal S1x128 .f32) : FVec Ideal S8x128 .f32 :=
  select (cmpi .slt lanesS (broadcast S8x128 64#32))
    (dynamicGather 1 (k0_pay16 (F := Ideal) s0) (shapeCast S8x128 (shapeCast S8x128x1
      (select (cmpi .slt (addi (k0_pay18 lanesS) (broadcast S8x128 1#32)) (broadcast S8x128 0#32))
        (addi (addi (k0_pay18 lanesS) (broadcast S8x128 1#32)) (broadcast S8x128 128#32)) (addi (k0_pay18 lanesS) (broadcast S8x128 1#32)))
      shapeCasts_S8x128_S8x128x1) shapeCasts_S8x128x1_S8x128))
    (dynamicGather 1 (k0_pay17 (F := Ideal) s1) (shapeCast S8x128 (shapeCast S8x128x1
      (select (cmpi .slt (addi (k0_pay18 lanesS) (broadcast S8x128 1#32)) (broadcast S8x128 0#32))
        (addi (addi (k0_pay18 lanesS) (broadcast S8x128 1#32)) (broadcast S8x128 128#32)) (addi (k0_pay18 lanesS) (broadcast S8x128 1#32)))
      shapeCasts_S8x128_S8x128x1) shapeCasts_S8x128x1_S8x128))

/-- The scale of an odd column. -/
theorem oddScale_apply (l : Fin 128) : oddScales s0 s1 (ix2 0 l)
    = if l.val < 64 then s0 (ix2 0 ⟨(2 * l.val + 1) % 128, by omega⟩) * sixteenth
      else s1 (ix2 0 ⟨(2 * l.val + 1) % 128, by omega⟩) * sixteenth := by
  obtain ⟨-, h, -, -, hs, -⟩ := lane_facts l
  have hl := lanesS_apply 0 l
  have hi : (fixup (addi (k0_pay18 lanesS) (broadcast S8x128 1#32) (ix2 0 l))).toNat % 128
      = (⟨(2 * l.val + 1) % 128, by omega⟩ : Fin 128).val := by
    show (fixup (IntOp.addi (IntOp.andi (IntOp.muli (lanesS (ix2 0 l)) 2#32) 127#32) 1#32)).toNat % 128 = _
    rw [hl]; exact h
  have g0 := gather_apply (k0_pay16 (F := Ideal) s0) (addi (k0_pay18 lanesS) (broadcast S8x128 1#32)) _ _ shapeCasts_S8x128_S8x128x1
    shapeCasts_S8x128x1_S8x128 rfl rfl 0 l _ hi
  have g1 := gather_apply (k0_pay17 (F := Ideal) s1) (addi (k0_pay18 lanesS) (broadcast S8x128 1#32)) _ _ shapeCasts_S8x128_S8x128x1
    shapeCasts_S8x128x1_S8x128 rfl rfl 0 l _ hi
  rw [pay16_apply] at g0
  rw [pay17_apply] at g1
  have e : oddScales s0 s1 (ix2 0 l) = Scalar.select (IntOp.cmpi .slt (lanesS (ix2 0 l)) 64#32) _ _ :=
    congrArg₂ (Scalar.select _) g0 g1
  rw [e, hl, hs, select_ofBool]

/-! ## The scaled results -/

/-- A product scaled column by column, at an element. -/
theorem scaled_apply (A : FVec Ideal S256x128 .f32) (S : FVec Ideal S8x128 .f32) (r : Fin 256) (l : Fin 128) :
    k0_pay20 (F := Ideal) A S (ix2 r l) = A (ix2 r l) * S (ix2 0 l) := by
  refine congrArg (fun z => A (ix2 r l) * S z) (funext fun d => ?_)
  match d with
  | ⟨0, _⟩ => rfl
  | ⟨1, _⟩ => exact Fin.ext (Nat.zero_add _)

/-- The even results at an element. -/
theorem yEven_apply (r : Fin 256) (l : Fin 128) :
    yEven (F := Ideal) b x w s0 s1 (ix2 r l) = accEven (F := Ideal) b x w (ix2 r l) * k0_pay19 (F := Ideal) lanesS s0 s1 (ix2 0 l) :=
  scaled_apply _ _ r l

/-- The odd results at an element. -/
theorem yOdd_apply (r : Fin 256) (l : Fin 128) :
    yOdd (F := Ideal) b x w s0 s1 (ix2 r l) = accOdd (F := Ideal) b x w (ix2 r l) * oddScales s0 s1 (ix2 0 l) :=
  scaled_apply _ (oddScales s0 s1) r l

/-! ## The pieces -/

/-- The kernel's weight of a byte for a result column of parity `q % 2`. -/
def weightOf (q : ℕ) (v : BitVec 8) : Ideal .bf16 := if q % 2 = 0 then evenWeight b v else oddWeight b v

/-- The first piece at an element. -/
theorem lowPiece_apply (r : Fin 256) (q : Fin 128) : lowPiece (F := Ideal) b x w s0 s1 (ix2 r q)
    = (∑ k : Fin 1024, x (ix2 r k) * weightOf b q.val (w (ix2 k ⟨q.val / 2, by omega⟩))) * (s0 (ix2 0 q) * sixteenth) := by
  obtain ⟨-, -, h, -, -, hp⟩ := lane_facts q
  have hl := lanesM_apply r q
  have hi : (fixup (k0_pay22 lanesM (ix2 r q))).toNat % 128 = (⟨q.val / 2, by omega⟩ : Fin 128).val := by
    show (fixup (IntOp.shrsi .vector (lanesM (ix2 r q)) 1#32)).toNat % 128 = _
    rw [hl]; exact h
  have g0 := gather_apply (yEven (F := Ideal) b x w s0 s1) (k0_pay22 lanesM) _ _ shapeCasts_S256x128_S256x128x1
    shapeCasts_S256x128x1_S256x128 rfl rfl r q _ hi
  have g1 := gather_apply (yOdd (F := Ideal) b x w s0 s1) (k0_pay22 lanesM) _ _ shapeCasts_S256x128_S256x128x1
    shapeCasts_S256x128x1_S256x128 rfl rfl r q _ hi
  have e : lowPiece (F := Ideal) b x w s0 s1 (ix2 r q) = Scalar.select (IntOp.cmpi .eq (IntOp.andi (lanesM (ix2 r q)) 1#32) 0#32) _ _ :=
    congrArg₂ (Scalar.select _) g0 g1
  have hlt : q.val / 2 < 64 := by omega
  rw [e, hl, hp, select_ofBool, yEven_apply, yOdd_apply, accEven_apply, accOdd_apply, evenScale_apply, oddScale_apply,
    if_pos hlt, if_pos hlt]
  unfold weightOf
  by_cases hq : q.val % 2 = 0
  · have e' : (⟨2 * (q.val / 2) % 128, by omega⟩ : Fin 128) = q := Fin.ext (by show 2 * (q.val / 2) % 128 = q.val; omega)
    simp only [hq, if_true, e']
  · have e' : (⟨(2 * (q.val / 2) + 1) % 128, by omega⟩ : Fin 128) = q := Fin.ext (by show (2 * (q.val / 2) + 1) % 128 = q.val; omega)
    simp only [hq, if_false, e']

/-- The last piece at an element. -/
theorem highPiece_apply (r : Fin 256) (q : Fin 128) : highPiece (F := Ideal) b x w s0 s1 (ix2 r q)
    = (∑ k : Fin 1024, x (ix2 r k) * weightOf b q.val (w (ix2 k ⟨64 + q.val / 2, by omega⟩))) * (s1 (ix2 0 q) * sixteenth) := by
  obtain ⟨-, -, -, h, -, hp⟩ := lane_facts q
  have hl := lanesM_apply r q
  have hi : (fixup (k0_pay23 lanesM (ix2 r q))).toNat % 128 = (⟨64 + q.val / 2, by omega⟩ : Fin 128).val := by
    show (fixup (IntOp.addi (IntOp.shrsi .vector (lanesM (ix2 r q)) 1#32) 64#32)).toNat % 128 = _
    rw [hl]; exact h
  have g0 := gather_apply (yEven (F := Ideal) b x w s0 s1) (k0_pay23 lanesM) _ _ shapeCasts_S256x128_S256x128x1
    shapeCasts_S256x128x1_S256x128 rfl rfl r q _ hi
  have g1 := gather_apply (yOdd (F := Ideal) b x w s0 s1) (k0_pay23 lanesM) _ _ shapeCasts_S256x128_S256x128x1
    shapeCasts_S256x128x1_S256x128 rfl rfl r q _ hi
  have e : highPiece (F := Ideal) b x w s0 s1 (ix2 r q) = Scalar.select (IntOp.cmpi .eq (IntOp.andi (lanesM (ix2 r q)) 1#32) 0#32) _ _ :=
    congrArg₂ (Scalar.select _) g0 g1
  have hge : ¬ 64 + q.val / 2 < 64 := by omega
  rw [e, hl, hp, select_ofBool, yEven_apply, yOdd_apply, accEven_apply, accOdd_apply, evenScale_apply, oddScale_apply,
    if_neg hge, if_neg hge]
  unfold weightOf
  by_cases hq : q.val % 2 = 0
  · have e' : (⟨2 * (64 + q.val / 2) % 128, by omega⟩ : Fin 128) = q := Fin.ext (by show 2 * (64 + q.val / 2) % 128 = q.val; omega)
    simp only [hq, if_true, e']
  · have e' : (⟨(2 * (64 + q.val / 2) + 1) % 128, by omega⟩ : Fin 128) = q :=
      Fin.ext (by show (2 * (64 + q.val / 2) + 1) % 128 = q.val; omega)
    simp only [hq, if_false, e']

end Cert.Proof.Olive

end
-- ==== Proof.Block.lean ====
/-
  THE KERNEL'S BLOCK. The eight pieces the body stores tile its 1024 result columns; each piece is the block's value where it
  lies, so the block is one function of the four input blocks (`blockOf`, `out_eq`).
-/
module

public import proofs.«01_k».proof.Proof.Pieces
public import proofs.«01_k».proof.Proof.Gen.KernelIdeal.Frame
public import Idealize.ShloMosaic.Lib.Pipeline.ValueKit

@[expose] public section

set_option maxRecDepth 16384

noncomputable section

namespace Cert.Proof.Olive

open Idealize.ShloMosaic hiding ix2 eq_ix2 ix1
open Idealize.ShloMosaic.ValueIdx Cert.KernelIdeal Cert.KernelIdeal.Gen

variable (b : Elt Ideal .i32) (x : Vec Ideal S256x1024 .bf16) (w : Vec Ideal S1024x512 .i8) (s : Vec Ideal S1x1024 .f32)

/-- The block the body leaves: column `q` is the product of code column `q / 2` with the weights of `q`'s parity, scaled. -/
def blockOf : Vec Ideal S256x1024 .bf16 := fun y =>
  (∑ k : Fin 1024, x (ix2 ⟨(y 0).val, idx2_lt0 y⟩ k) * weightOf b (y 1).val (w (ix2 k ⟨(y 1).val / 2, by have := idx2_lt1 y; omega⟩)))
    * (s (ix2 0 ⟨(y 1).val, idx2_lt1 y⟩) * sixteenth)

/-- A chunk's first piece is the block at the elements the piece lies on. -/
theorem low_at (n : ℕ) (hw) (hs0) (hs1) (r : Fin 256) (q : Fin 128) (y : S256x1024.Idx)
    (e0 : (y 0).val = r.val) (e1 : (y 1).val = 2 * n + q.val) :
    lowPiece (F := Ideal) b x (View.ld w (Rect.unit (s := S1024x512) ![0, n] ![1024, 128] hw))
      (View.ld s (Rect.unit (s := S1x1024) ![0, 2 * n] ![1, 128] hs0)) (View.ld s (Rect.unit (s := S1x1024) ![0, 2 * n + 128] ![1, 128] hs1)) (ix2 r q)
    = blockOf b x w s y := by
  have hq : q.val < 128 := q.isLt
  refine (lowPiece_apply b x _ _ _ r q).trans ?_
  unfold blockOf
  refine congrArg₂ (· * ·) (Finset.sum_congr rfl fun k _ => congrArg₂ (· * ·) (congrArg x ?_) ?_) (congrArg (· * sixteenth) ?_)
  · exact congrArg (ix2 · k) (Fin.ext e0.symm)
  · have hp : q.val % 2 = (y 1).val % 2 := by omega
    unfold weightOf
    rw [hp]
    refine congrArg (fun v => if (y 1).val % 2 = 0 then evenWeight b v else oddWeight b v) ?_
    refine View.ld_unit_apply_of w ![0, n] ![1024, 128] hw _ _ fun a => ?_
    match a with
    | ⟨0, _⟩ => exact (Nat.zero_add _).symm
    | ⟨1, _⟩ => show (y 1).val / 2 = n + q.val / 2; omega
  · refine View.ld_unit_apply_of s ![0, 2 * n] ![1, 128] hs0 _ _ fun a => ?_
    match a with
    | ⟨0, _⟩ => rfl
    | ⟨1, _⟩ => exact e1

/-- A chunk's first piece is the block where the piece lies. -/
theorem low_block (n : ℕ) (hw) (hs0) (hs1) (ho) (z : S256x128.Idx) :
    lowPiece (F := Ideal) b x (View.ld w (Rect.unit (s := S1024x512) ![0, n] ![1024, 128] hw))
      (View.ld s (Rect.unit (s := S1x1024) ![0, 2 * n] ![1, 128] hs0)) (View.ld s (Rect.unit (s := S1x1024) ![0, 2 * n + 128] ![1, 128] hs1)) z
    = blockOf b x w s ((Rect.unit (s := S256x1024) ![0, 2 * n] ![256, 128] ho).emb z) := by
  rw [eq_ix2 z]
  exact low_at b x w s n hw hs0 hs1 (z 0) (z 1) _ (by show 0 + 1 * (z 0).val = (z 0).val; omega)
    (by show 2 * n + 1 * (z 1).val = 2 * n + (z 1).val; omega)

/-- A chunk's last piece is the block at the elements the piece lies on. -/
theorem high_at (n : ℕ) (hw) (hs0) (hs1) (r : Fin 256) (q : Fin 128) (y : S256x1024.Idx)
    (e0 : (y 0).val = r.val) (e1 : (y 1).val = 2 * n + 128 + q.val) :
    highPiece (F := Ideal) b x (View.ld w (Rect.unit (s := S1024x512) ![0, n] ![1024, 128] hw))
      (View.ld s (Rect.unit (s := S1x1024) ![0, 2 * n] ![1, 128] hs0)) (View.ld s (Rect.unit (s := S1x1024) ![0, 2 * n + 128] ![1, 128] hs1)) (ix2 r q)
    = blockOf b x w s y := by
  have hq : q.val < 128 := q.isLt
  refine (highPiece_apply b x _ _ _ r q).trans ?_
  unfold blockOf
  refine congrArg₂ (· * ·) (Finset.sum_congr rfl fun k _ => congrArg₂ (· * ·) (congrArg x ?_) ?_) (congrArg (· * sixteenth) ?_)
  · exact congrArg (ix2 · k) (Fin.ext e0.symm)
  · have hp : q.val % 2 = (y 1).val % 2 := by omega
    unfold weightOf
    rw [hp]
    refine congrArg (fun v => if (y 1).val % 2 = 0 then evenWeight b v else oddWeight b v) ?_
    refine View.ld_unit_apply_of w ![0, n] ![1024, 128] hw _ _ fun a => ?_
    match a with
    | ⟨0, _⟩ => exact (Nat.zero_add _).symm
    | ⟨1, _⟩ => show (y 1).val / 2 = n + (64 + q.val / 2); omega
  · refine View.ld_unit_apply_of s ![0, 2 * n + 128] ![1, 128] hs1 _ _ fun a => ?_
    match a with
    | ⟨0, _⟩ => rfl
    | ⟨1, _⟩ => exact e1

/-- A chunk's last piece is the block where the piece lies. -/
theorem high_block (n : ℕ) (hw) (hs0) (hs1) (ho) (z : S256x128.Idx) :
    highPiece (F := Ideal) b x (View.ld w (Rect.unit (s := S1024x512) ![0, n] ![1024, 128] hw))
      (View.ld s (Rect.unit (s := S1x1024) ![0, 2 * n] ![1, 128] hs0)) (View.ld s (Rect.unit (s := S1x1024) ![0, 2 * n + 128] ![1, 128] hs1)) z
    = blockOf b x w s ((Rect.unit (s := S256x1024) ![0, 2 * n + 128] ![256, 128] ho).emb z) := by
  rw [eq_ix2 z]
  exact high_at b x w s n hw hs0 hs1 (z 0) (z 1) _ (by show 0 + 1 * (z 0).val = (z 0).val; omega)
    (by show 2 * n + 128 + 1 * (z 1).val = 2 * n + 128 + (z 1).val; omega)

/-- The exponent bias as the body reads it. -/
abbrev biasAt (x0 : Vec Ideal S1 .i32) : Elt Ideal .i32 := x0 (ix1 0)

/-- What the body leaves in the output's staging buffer: the block of the input blocks. -/
theorem out_eq (c : Dev nD) (i : grid0.Coords) (a1 : Memref sig .tc .smem S1 .i32) (h1 : a1.IsWhole) (a2 : Memref sig .tc .vmem S256x1024 .bf16)
    (h2 : a2.IsWhole) (a3 : Memref sig .tc .vmem S1024x512 .i8) (h3 : a3.IsWhole) (a4 : Memref sig .tc .vmem S1x1024 .f32) (h4 : a4.IsWhole)
    (a5 : Memref sig .tc .vmem S256x1024 .bf16) (h5 : a5.IsWhole)
    (x0 : Vec Ideal S1 .i32) (x1 : Vec Ideal S256x1024 .bf16) (x2 : Vec Ideal S1024x512 .i8) (x3 : Vec Ideal S1x1024 .f32) :
    out0_A_4 (F := Ideal) c i a1 h1 a2 h2 a3 h3 a4 h4 a5 h5 x0 x1 x2 x3 = blockOf (biasAt x0) x1 x2 x3 := by
  funext y
  frame_out
  have hb : View.ld x0 (Rect.unit (s := S1) ![0] ![1] inb_S1_S1_0) (Shape.Idx.first (by decide)) = biasAt x0 :=
    View.ld_unit_apply_of x0 ![0] ![1] inb_S1_S1_0 _ _ fun a => by match a with | ⟨0, _⟩ => rfl
  refine View.canon_apply_of_pieces (blockOf (biasAt x0) x1 x2 x3) _ ?_ y ?_
  · simp only [List.forall_mem_cons, List.not_mem_nil, false_implies, implies_true, and_true]
    rw [← hb]
    exact ⟨fun z => high_block _ x1 x2 x3 384 inb_S1024x512_S1024x128_0_384 inb_S1x1024_S1x128_0_768 inb_S1x1024_S1x128_0_896 inb_S256x1024_S256x128_0_896 z,
      fun z => low_block _ x1 x2 x3 384 inb_S1024x512_S1024x128_0_384 inb_S1x1024_S1x128_0_768 inb_S1x1024_S1x128_0_896 inb_S256x1024_S256x128_0_768 z,
      fun z => high_block _ x1 x2 x3 256 inb_S1024x512_S1024x128_0_256 inb_S1x1024_S1x128_0_512 inb_S1x1024_S1x128_0_640 inb_S256x1024_S256x128_0_640 z,
      fun z => low_block _ x1 x2 x3 256 inb_S1024x512_S1024x128_0_256 inb_S1x1024_S1x128_0_512 inb_S1x1024_S1x128_0_640 inb_S256x1024_S256x128_0_512 z,
      fun z => high_block _ x1 x2 x3 128 inb_S1024x512_S1024x128_0_128 inb_S1x1024_S1x128_0_256 inb_S1x1024_S1x128_0_384 inb_S256x1024_S256x128_0_384 z,
      fun z => low_block _ x1 x2 x3 128 inb_S1024x512_S1024x128_0_128 inb_S1x1024_S1x128_0_256 inb_S1x1024_S1x128_0_384 inb_S256x1024_S256x128_0_256 z,
      fun z => high_block _ x1 x2 x3 0 inb_S1024x512_S1024x128_0_0 inb_S1x1024_S1x128_0_0 inb_S1x1024_S1x128_0_128 inb_S256x1024_S256x128_0_128 z,
      fun z => low_block _ x1 x2 x3 0 inb_S1024x512_S1024x128_0_0 inb_S1x1024_S1x128_0_0 inb_S1x1024_S1x128_0_128 inb_S256x1024_S256x128_0_0 z⟩
  · exact View.cover_of_tiledL (s := S256x1024) _ ![256, 128] (by sl_kernel_rfl) y

end Cert.Proof.Olive

end
-- ==== Proof.Array.lean ====
/-
  THE KERNEL'S RESULT ARRAY. The 24 grid points write the 24 column blocks of the array, so the array after the run is one
  function of the arguments (`arrayOf`, `final`); the host's last line reshapes it to the result (`run`).
-/
module

public import proofs.«01_k».proof.Proof.Block

@[expose] public section

set_option maxRecDepth 16384

noncomputable section

namespace Cert.Proof.Olive

open Idealize.ShloMosaic hiding ix2 eq_ix2 ix1
open Idealize.ShloMosaic.TcCoe Idealize.SL.Sem
open Idealize.ShloMosaic.ValueIdx Cert.KernelIdeal Cert.KernelIdeal.Gen
open Idealize.ShloMosaic.Pipeline (Dat)

/-- The array the kernel leaves: column `q` is the product of code column `q / 2` with the weights of `q`'s parity, scaled. -/
def arrayOf (b : Elt Ideal .i32) (x : Vec Ideal S256x1024 .bf16) (w : Vec Ideal S1024x12288 .i8) (s : Vec Ideal S1x24576 .f32) :
    Vec Ideal S256x24576 .bf16 := fun y =>
  (∑ k : Fin 1024, x (ix2 ⟨(y 0).val, idx2_lt0 y⟩ k) * weightOf b (y 1).val (w (ix2 k ⟨(y 1).val / 2, by have := idx2_lt1 y; omega⟩)))
    * (s (ix2 0 ⟨(y 1).val, idx2_lt1 y⟩) * sixteenth)

variable (m : (ℓ : Loc nD τ sig) → Buf (Elt Ideal) ℓ) (ρ : Dev nD → PrngReg)

/-- Where the windows' blocks lie. -/
theorem idx_eq : ∀ t : Fin grid0.N, win0_0.index t = ![0] ∧ win0_1.index t = ![0, 0] ∧ win0_2.index t = ![0, t.val] ∧ win0_3.index t = ![0, t.val]
    ∧ win0_4.index t = ![0, t.val] := by decide +kernel

/-- The exponent bias as a point reads it. -/
theorem bias_read (c : Dev nD) (t : Fin cfg0.N) : biasAt (iblk (F := Ideal) m c 0 t) = V m c main_arg3 (ix1 0) := by
  have h := (idx_eq t).1
  unfold biasAt
  blk_ext [iblk, h]

/-- The rows of `x` as a point reads them. -/
theorem x_read (c : Dev nD) (t : Fin cfg0.N) (r : Fin 256) (k : Fin 1024) :
    iblk (F := Ideal) m c 1 t (ix2 r k) = V m c main_v0 (ix2 r k) := by
  have h := (idx_eq t).2.1
  blk_ext [iblk, h]

/-- The code bytes as a point reads them. -/
theorem w_read (c : Dev nD) (t : Fin cfg0.N) (k : Fin 1024) (l : Fin 512) (L : Fin 12288) (hL : L.val = t.val * 512 + l.val) :
    iblk (F := Ideal) m c 2 t (ix2 k l) = V m c main_arg1 (ix2 k L) := by
  have h := (idx_eq t).2.2.1
  blk_ext [iblk, h]
  exact hL.symm

/-- The scales as a point reads them. -/
theorem s_read (c : Dev nD) (t : Fin cfg0.N) (l : Fin 1024) (L : Fin 24576) (hL : L.val = t.val * 1024 + l.val) :
    iblk (F := Ideal) m c 3 t (ix2 0 l) = V m c main_v1 (ix2 0 L) := by
  have h := (idx_eq t).2.2.2.1
  blk_ext [iblk, h]
  exact hL.symm

/-- A block of the array, at an element. -/
theorem block_array (c : Dev nD) (t : Fin cfg0.N) (y : S256x1024.Idx) (Y : S256x24576.Idx) (h0 : (Y 0).val = (y 0).val)
    (h1 : (Y 1).val = t.val * 1024 + (y 1).val) :
    blockOf (biasAt (iblk (F := Ideal) m c 0 t)) (iblk m c 1 t) (iblk m c 2 t) (iblk m c 3 t) y
      = arrayOf (V m c main_arg3 (ix1 0)) (V m c main_v0) (V m c main_arg1) (V m c main_v1) Y := by
  unfold blockOf arrayOf
  rw [bias_read m c t]
  have hy := idx2_lt1 y
  have hp : (y 1).val % 2 = (Y 1).val % 2 := by omega
  refine congrArg₂ (· * ·) (Finset.sum_congr rfl fun k _ => congrArg₂ (· * ·) ?_ ?_) (congrArg (· * sixteenth) ?_)
  · refine (x_read m c t _ k).trans (congrArg (V m c main_v0) (congrArg (ix2 · k) (Fin.ext h0.symm)))
  · unfold weightOf
    rw [hp]
    refine congrArg (fun v => if (Y 1).val % 2 = 0 then evenWeight (V m c main_arg3 (ix1 0)) v else oddWeight (V m c main_arg3 (ix1 0)) v) ?_
    exact w_read m c t k _ _ (by show (Y 1).val / 2 = t.val * 512 + (y 1).val / 2; omega)
  · exact s_read m c t _ _ h1

/-- The array after the run, of the buffers as the region finds them. -/
theorem final (c : Dev nD) : (dats (F := Ideal) m 0 c).arrAt 4 cfg0.N
    = arrayOf (V m c main_arg3 (ix1 0)) (V m c main_v0) (V m c main_arg1) (V m c main_v1) := by
  refine (dats (F := Ideal) m 0 c).arrAt_eq_of_covers 4 _ (by decide +kernel) fun t hf y => ?_
  have h := (idx_eq t).2.2.2.2
  blk_simp
  rw [after0_4]
  unfold outsAt0
  rw [out_eq]
  refine block_array m c t y _ ?_ ?_
  · blk_simp [h]
  · blk_simp [h]

/-- The result: the array, its columns of the two rows of `x` apart again. -/
theorem tail (c : Dev nD) : Pipeline.afterTail₀ cfgs (dats (F := Ideal) m) 0 (V0 m) [hostOps1] c main_v3
    = shapeCast S2x128x24576 ((dats (F := Ideal) m 0 c).arrAt 4 cfg0.N) shapeCasts_S256x24576_S2x128x24576 := by
  have e := Pipeline.withArrays_arr spec0 (by decide) c (V0 m c) (fun w => (dats (F := Ideal) m 0 c).arrAt w cfg0.N) 4
  unfold Pipeline.afterTail₀
  simp only [hostOps1, List.flatten_cons, List.flatten_nil, List.append_nil, StableHlo.after_cons, StableHlo.after_nil]
  after_results_simp
  exact congrArg (fun z => shapeCast S2x128x24576 z shapeCasts_S256x24576_S2x128x24576) e

/-- The result of the arguments. -/
def resultOf (b : Vec Ideal S1 .i32) (x : Vec Ideal S2x128x1024 .bf16) (w : Vec Ideal S1024x12288 .i8) (s : Vec Ideal S24576 .f32) :
    Vec Ideal S2x128x24576 .bf16 :=
  shapeCast S2x128x24576
    (arrayOf (b (ix1 0)) (shapeCast S256x1024 x shapeCasts_S2x128x1024_S256x1024) w (shapeCast S1x24576 s shapeCasts_S24576_S1x24576))
    shapeCasts_S256x24576_S2x128x24576

/-- The rows of `x` as the region finds them. -/
theorem V_x (c : Dev nD) : V m c main_v0
    = shapeCast S256x1024 (m ((c.tc : Thread nD τ).loc main_arg0)) shapeCasts_S2x128x1024_S256x1024 := by
  show StableHlo.after [hostOps0].flatten _ _ = _
  simp only [hostOps0, List.flatten_cons, List.flatten_nil, List.append_nil]
  after_results_simp
  rfl

/-- The scales as the region finds them. -/
theorem V_s (c : Dev nD) : V m c main_v1
    = shapeCast S1x24576 (m ((c.tc : Thread nD τ).loc main_arg2)) shapeCasts_S24576_S1x24576 := by
  show StableHlo.after [hostOps0].flatten _ _ = _
  simp only [hostOps0, List.flatten_cons, List.flatten_nil, List.append_nil]
  after_results_simp
  rfl

/-- The kernel's run: the result of the arguments, and the arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3)
        = resultOf (m ((c.tc : Thread nD τ).loc main_arg3)) (m ((c.tc : Thread nD τ).loc main_arg0))
            (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, (h.2 c).1, (h.2 c).2.1, (h.2 c).2.2.1, (h.2 c).2.2.2⟩)
    (θ_run_and (run_main (F := Ideal) m ρ) (unchanged (F := Ideal) m ρ))
  refine (((h.1 c).2 main_v3 (Pipeline.mem_restRefs_of main_v3 (by decide) (by decide))).trans (tail m c)).trans ?_
  rw [final m c, V_x m c, V_s m c, V_main_arg1 m c, V_main_arg3 m c]
  rfl

end Cert.Proof.Olive

end
-- ==== Proof.RefValue.lean ====
/-
  THE REFERENCE'S RESULT, AT AN ELEMENT. Column `2 q` is the product of `x` with the weights the low nibbles of code column `q`
  name, column `2 q + 1` with those the high nibbles name, each scaled (`result_apply`).
-/
module

public import proofs.«01_k».proof.Proof.Weight
public import proofs.«01_k».proof.Proof.Gen.ReferenceIdeal.Run
public import Idealize.ShloMosaic.Lib.Pipeline.Value
public import Idealize.ShloMosaic.Lib.Pointwise.Tactic
public import Idealize.ShloMosaic.Lib.Pointwise.Contract
public import Idealize.ShloMosaic.Lib.Pointwise.Reshape
public import Idealize.ShloMosaic.Lib.Pointwise.SelectCore

@[expose] public section

set_option maxRecDepth 16384

noncomputable section

namespace Cert.Proof.Olive

open Idealize.ShloMosaic hiding ix1 ix2 ix3 ix4 eq_ix2 eq_ix3 eq_ix4
open Idealize.ShloMosaic.TcCoe Idealize.SL.Sem
open Idealize.ShloMosaic.ValueIdx Cert.ReferenceIdeal Cert.ReferenceIdeal.Gen

/-- The two columns of every pair side by side, as the reference joins them. -/
abbrev joined (e o : FVec Ideal S2x128x12288 .bf16) : FVec Ideal S2x128x24576 .bf16 :=
  shapeCast S2x128x24576 (concatenate S2x128x12288x2 3
    [⟨S2x128x12288x1, broadcastInDim S2x128x12288x1 ![0, 1, 2] bcast_S2x128x12288_S2x128x12288x1_0_1_2 e⟩,
     ⟨S2x128x12288x1, broadcastInDim S2x128x12288x1 ![0, 1, 2] bcast_S2x128x12288_S2x128x12288x1_0_1_2 o⟩]
    concatenates_S2x128x12288x1_S2x128x12288x1_S2x128x12288x2_d3) shapeCasts_S2x128x12288x2_S2x128x24576

/-- A joined array, at an element: the even array's at an even column, the odd one's at an odd. -/
theorem joined_apply (e o : FVec Ideal S2x128x12288 .bf16) (a : Fin 2) (r : Fin 128) (q : Fin 24576) :
    joined e o (ix3 a r q) = if q.val % 2 = 0 then e (ix3 a r ⟨q.val / 2, by omega⟩) else o (ix3 a r ⟨q.val / 2, by omega⟩) := by
  unfold joined
  rw [shapeCast_apply _ _ (ix3 a r q) (ix4 a r ⟨q.val / 2, by omega⟩ ⟨q.val % 2, by omega⟩) (by
    rw [rowMajor_val4 _ _ _ _ rfl rfl rfl, rowMajor_val3 _ _ _ rfl rfl]
    show a.val * (128 * (12288 * 2)) + r.val * (12288 * 2) + q.val / 2 * 2 + q.val % 2 = a.val * (128 * 24576) + r.val * 24576 + q.val
    omega)]
  rcases Nat.mod_two_eq_zero_or_one q.val with h | h
  · rw [if_pos h, concatenate_pair_apply, dif_pos (by show q.val % 2 < 1; omega)]
    pointwise
    rfl
  · rw [if_neg (by omega), concatenate_pair_apply, dif_neg (by show ¬ q.val % 2 < 1; omega)]
    pointwise
    rfl

/-- One parity's columns: the product with that parity's weights, scaled by every second scale from `p`. -/
abbrev column (x : FVec Ideal S2x128x1024 .bf16) (w : FVec Ideal S1024x12288 .f32) (s : FVec Ideal S12288 .f32) : FVec Ideal S2x128x12288 .bf16 :=
  truncf .bf16 (mulf (Host.dotGeneral dot_S2x128x1024_S1024x12288_S2x128x12288_2_0_01_1_n_n none x (truncf .bf16 w bitsLt_bf16_f32))
    (broadcastInDim S2x128x12288 ![0, 1, 2] bcast_S1x1x12288_S2x128x12288_0_1_2 (broadcastInDim S1x1x12288 ![2] bcast_S12288_S1x1x12288_2 s))) bitsLt_bf16_f32

/-- One parity's column, at an element. -/
theorem column_apply (x : FVec Ideal S2x128x1024 .bf16) (w : FVec Ideal S1024x12288 .f32) (s : FVec Ideal S12288 .f32) (a : Fin 2) (r : Fin 128)
    (l : Fin 12288) : column x w s (ix3 a r l) = ((∑ k : Fin 1024, x (ix3 a r k) * w (ix2 k l)) * s (ix1 l) : EReal) := by
  pointwise
  rfl

/-- The weights the low nibbles name. -/
def lowWeights (b : Vec Ideal S1 .i32) (w : Vec Ideal S1024x12288 .i8) : FVec Ideal S1024x12288 .f32 := fun i =>
  refWeight (lowCode (w i)) (highCode (w i)) (scaleOf (b (ix1 0)))

/-- The weights the high nibbles name. -/
def highWeights (b : Vec Ideal S1 .i32) (w : Vec Ideal S1024x12288 .i8) : FVec Ideal S1024x12288 .f32 := fun i =>
  refWeight (highCode (w i)) (lowCode (w i)) (scaleOf (b (ix1 0)))

/-- The one element of the bias, read as a scalar. -/
theorem scalar_read (b : Vec Ideal S1 .i32) (z : S_.Idx) : shapeCast S_ b shapeCasts_S1_S_ z = b (ix1 0) :=
  congrArg b ((ValueIdx.eq_ix1 _).trans (congrArg ValueIdx.ix1 (Subsingleton.elim (α := Fin 1) _ _)))

variable (m : (ℓ : Loc nD τ sig) → Buf (Elt Ideal) ℓ)

/-- The reference's result: the columns of both parities, joined. -/
theorem result_eq (c : Dev nD) : Value.res_out0 (F := Ideal) m c
    = joined
        (column (m ((c.tc : Thread nD τ).loc main_arg0)) (lowWeights (m ((c.tc : Thread nD τ).loc main_arg3)) (m ((c.tc : Thread nD τ).loc main_arg1)))
          (Host.slice S12288 ![0] ![2] (m ((c.tc : Thread nD τ).loc main_arg2)) slicesBy_S24576_S12288_0s2))
        (column (m ((c.tc : Thread nD τ).loc main_arg0)) (highWeights (m ((c.tc : Thread nD τ).loc main_arg3)) (m ((c.tc : Thread nD τ).loc main_arg1)))
          (Host.slice S12288 ![1] ![2] (m ((c.tc : Thread nD τ).loc main_arg2)) slicesBy_S24576_S12288_1s2)) := by
  unfold Value.res_out0 Value.res_main_v96 joined column
  refine congrArg₂ (fun e o => joined (column (m ((c.tc : Thread nD τ).loc main_arg0)) e _) (column (m ((c.tc : Thread nD τ).loc main_arg0)) o _))
    (funext fun i => ?_) (funext fun i => ?_)
  · exact congrArg (fun z => refWeight (lowCode (m ((c.tc : Thread nD τ).loc main_arg1) i)) (highCode (m ((c.tc : Thread nD τ).loc main_arg1) i)) (scaleOf z))
      (scalar_read (m ((c.tc : Thread nD τ).loc main_arg3)) _)
  · exact congrArg (fun z => refWeight (highCode (m ((c.tc : Thread nD τ).loc main_arg1) i)) (lowCode (m ((c.tc : Thread nD τ).loc main_arg1) i)) (scaleOf z))
      (scalar_read (m ((c.tc : Thread nD τ).loc main_arg3)) _)

/-- The reference's weight of column `q`'s parity in a code byte. -/
def refWeightOf (b : BitVec 32) (q : ℕ) (v : BitVec 8) : Ideal .f32 :=
  if q % 2 = 0 then refWeight (lowCode v) (highCode v) (scaleOf b) else refWeight (highCode v) (lowCode v) (scaleOf b)

/-- The reference's result, at an element, of the arguments. -/
def refAt (b : Vec Ideal S1 .i32) (x : Vec Ideal S2x128x1024 .bf16) (w : Vec Ideal S1024x12288 .i8) (s : Vec Ideal S24576 .f32)
    (a : Fin 2) (r : Fin 128) (q : Fin 24576) : EReal :=
  (∑ k : Fin 1024, x (ix3 a r k) * refWeightOf (b (ix1 0)) q.val (w (ix2 k ⟨q.val / 2, by omega⟩))) * s (ix1 q)

/-- The reference's result, at an element. -/
theorem result_apply (c : Dev nD) (a : Fin 2) (r : Fin 128) (q : Fin 24576) : Value.res_out0 (F := Ideal) m c (ix3 a r q)
    = refAt (m ((c.tc : Thread nD τ).loc main_arg3)) (m ((c.tc : Thread nD τ).loc main_arg0))
        (m ((c.tc : Thread nD τ).loc main_arg1)) (m ((c.tc : Thread nD τ).loc main_arg2)) a r q := by
  have slice (p : ℕ) (h) (e : p = q.val % 2) : Host.slice S12288 ![p] ![2] (m ((c.tc : Thread nD τ).loc main_arg2)) h (ix1 ⟨q.val / 2, by omega⟩)
      = m ((c.tc : Thread nD τ).loc main_arg2) (ix1 q) := by
    pointwise
    exact congrArg (m ((c.tc : Thread nD τ).loc main_arg2)) (congrArg ix1 (Fin.ext (by show p + 2 * (q.val / 2) = q.val; omega)))
  rw [result_eq, joined_apply]
  unfold refAt refWeightOf
  by_cases h : q.val % 2 = 0
  · simp only [if_pos h]
    rw [column_apply, slice 0 _ h.symm]
    rfl
  · simp only [if_neg h]
    rw [column_apply, slice 1 _ (by omega)]
    rfl

end Cert.Proof.Olive

end
-- ==== Proof.Equation.lean ====
/-
  THE EQUATION. The kernel's weights are sixteen times the reference's, and its scales a sixteenth of the reference's: both
  results are the same sum of products (`results_eq`).
-/
module

public import proofs.«01_k».proof.Defs
public import proofs.«01_k».proof.Proof.Array
public import proofs.«01_k».proof.Proof.RefValue

@[expose] public section

set_option maxRecDepth 16384

noncomputable section

namespace Cert.Proof.Olive

open Idealize.ShloMosaic hiding ix1 ix2 ix3 ix4 eq_ix2 eq_ix3 eq_ix4
open Idealize.ShloMosaic.TcCoe Idealize.SL.Sem
open Idealize.ShloMosaic.ValueIdx Cert.KernelIdeal Cert.KernelIdeal.Gen

/-- The precondition's side conditions. -/
theorem preFacts : Cert.Pre_encoded.Facts :=
  ⟨by decide, by decide, by decide, by decide, by decide⟩

/-- A real factor comes out of a sum. -/
theorem real_mul_sum {ι : Type} (s : Finset ι) (r : ℝ) (hr : 0 ≤ r) (f : ι → EReal) :
    ∑ k ∈ s, (r : EReal) * f k = (r : EReal) * ∑ k ∈ s, f k := by
  classical
  induction s using Finset.induction_on with
  | empty => simp
  | insert i s hi ih =>
    rw [Finset.sum_insert hi, Finset.sum_insert hi, ih,
      EReal.left_distrib_of_nonneg_of_ne_top (EReal.coe_nonneg.mpr hr) (EReal.coe_ne_top r)]

/-- Sixteen times a sum, scaled by a sixteenth of `s`, is the sum scaled by `s`. -/
theorem sixteen_cancels (A s : EReal) : (((16 : ℝ) : EReal) * A) * (s * ((1 / 16 : ℝ) : EReal)) = A * s := by
  have h : ((16 : ℝ) : EReal) * ((1 / 16 : ℝ) : EReal) = 1 := by
    rw [← EReal.coe_mul]; norm_num
  calc (((16 : ℝ) : EReal) * A) * (s * ((1 / 16 : ℝ) : EReal))
      = (((16 : ℝ) : EReal) * ((1 / 16 : ℝ) : EReal)) * (A * s) := by
        ac_rfl
    _ = A * s := by rw [h, one_mul]

/-- The kernel's weight of a column is sixteen times the reference's. -/
theorem weightOf_eq (b : BitVec 32) (h1 : -130 ≤ b.toInt) (h2 : b.toInt ≤ 120) (q : ℕ) (v : BitVec 8) (hv : v ≠ 136#8) :
    weightOf b q v = ((16 : ℝ) : EReal) * refWeightOf b q v := by
  unfold weightOf refWeightOf
  by_cases h : q % 2 = 0
  · rw [if_pos h, if_pos h]; exact evenWeight_eq b h1 h2 v hv
  · rw [if_neg h, if_neg h]; exact oddWeight_eq b h1 h2 v hv

/-- The kernel's result, at an element. -/
theorem resultOf_apply (b : Vec Ideal S1 .i32) (x : Vec Ideal S2x128x1024 .bf16) (w : Vec Ideal S1024x12288 .i8)
    (s : Vec Ideal S24576 .f32) (a : Fin 2) (r : Fin 128) (q : Fin 24576) :
    resultOf b x w s (ix3 a r q)
      = ((∑ k : Fin 1024, x (ix3 a r k) * weightOf (b (ix1 0)) q.val (w (ix2 k ⟨q.val / 2, by omega⟩)))
          * (s (ix1 q) * sixteenth) : EReal) := by
  have hx (k : Fin 1024) : shapeCast S256x1024 x shapeCasts_S2x128x1024_S256x1024 (ix2 ⟨a.val * 128 + r.val, by omega⟩ k) = x (ix3 a r k) := by
    refine shapeCast_apply _ _ _ _ ?_
    rw [rowMajor_val3 _ _ _ rfl rfl, rowMajor_val2 _ _ rfl]
    show a.val * (128 * 1024) + r.val * 1024 + k.val = (a.val * 128 + r.val) * 1024 + k.val
    omega
  have hs : shapeCast S1x24576 s shapeCasts_S24576_S1x24576 (ix2 0 q) = s (ix1 q) := by
    refine shapeCast_apply _ _ _ _ ?_
    rw [rowMajor_val1, rowMajor_val2 _ _ rfl]
    show q.val = 0 * 24576 + q.val
    omega
  unfold resultOf
  rw [shapeCast_apply _ _ (ix3 a r q) (ix2 ⟨a.val * 128 + r.val, by omega⟩ q) (by
    rw [rowMajor_val3 _ _ _ rfl rfl, rowMajor_val2 _ _ rfl]
    show (a.val * 128 + r.val) * 24576 + q.val = a.val * (128 * 24576) + r.val * 24576 + q.val
    omega)]
  exact congrArg₂ (· * ·) (Finset.sum_congr rfl fun k _ => congrArg (· * _) (hx k)) (congrArg (· * sixteenth) hs)

/-- Two bits whose conjunction is set are both set. -/
theorem both_one : ∀ a b : BitVec 1, IntOp.andi a b = 1#1 → a = 1#1 ∧ b = 1#1 := by decide

/-- The set bit of a truth value. -/
theorem ofBool_one : ∀ t : Bool, (BitVec.ofBool t = 1#1) = (t = true) := by decide

/-- What the precondition says of the arguments. -/
theorem encoded_iff (x : FVec Ideal Cert.Pre_encoded.S2x128x1024 .bf16) (w : IVec Cert.Pre_encoded.S1024x12288 8)
    (s : FVec Ideal Cert.Pre_encoded.S24576 .f32) (b : IVec Cert.Pre_encoded.S1 32)
    (h : @Cert.Pre_encoded.fn preFacts Ideal _ x w s b = fun _ => 1#1) (i : Cert.Pre_encoded.S1024x12288.Idx) :
    -130 ≤ (b (ix1 0)).toInt ∧ (b (ix1 0)).toInt ≤ 120 ∧ w i ≠ 136#8 := by
  have e := congrFun h i
  have read : @Cert.Pre_encoded.fn preFacts Ideal _ x w s b i
      = IntOp.andi (IntOp.andi (IntOp.cmpi .sge (b (ix1 0)) 4294967166#32) (IntOp.cmpi .sle (b (ix1 0)) 120#32))
          (IntOp.cmpi .ne ((w i).setWidth 32) 136#32) := by
    unfold Cert.Pre_encoded.fn
    dsimp only
    pointwise
    rfl
  rw [read] at e
  revert e
  generalize b (ix1 0) = B
  generalize w i = v
  intro e
  obtain ⟨e, e3⟩ := both_one _ _ e
  obtain ⟨e1, e2⟩ := both_one _ _ e
  simp only [IntOp.cmpi, ofBool_one, BitVec.sle_iff_toInt_le] at e1 e2
  refine ⟨e1, e2, ?_⟩
  rintro rfl
  exact absurd e3 (by decide)

variable (m : (ℓ : Loc nD τ sig) → Buf (Elt Ideal) ℓ)
variable (m' : (ℓ : Loc Cert.ReferenceIdeal.nD Cert.ReferenceIdeal.τ Cert.ReferenceIdeal.sig) → Buf (Elt Ideal) ℓ)

/-- The two results are equal, where the arguments agree and the precondition holds. -/
theorem results_eq (b : Vec Ideal S1 .i32) (x : Vec Ideal S2x128x1024 .bf16) (w : Vec Ideal S1024x12288 .i8)
    (s : Vec Ideal S24576 .f32) (h : @Cert.Pre_encoded.fn preFacts Ideal _ x w s b = fun _ => 1#1) (c : Dev Cert.ReferenceIdeal.nD)
    (h0 : m' ((c.tc : Thread Cert.ReferenceIdeal.nD Cert.ReferenceIdeal.τ).loc Cert.ReferenceIdeal.main_arg0) = x)
    (h1 : m' ((c.tc : Thread Cert.ReferenceIdeal.nD Cert.ReferenceIdeal.τ).loc Cert.ReferenceIdeal.main_arg1) = w)
    (h2 : m' ((c.tc : Thread Cert.ReferenceIdeal.nD Cert.ReferenceIdeal.τ).loc Cert.ReferenceIdeal.main_arg2) = s)
    (h3 : m' ((c.tc : Thread Cert.ReferenceIdeal.nD Cert.ReferenceIdeal.τ).loc Cert.ReferenceIdeal.main_arg3) = b) :
    Cert.ReferenceIdeal.Value.res_out0 (F := Ideal) m' c = resultOf b x w s := by
  refine funext fun (y : S2x128x24576.Idx) => ?_
  rw [eq_ix3 y]
  refine (result_apply m' c (y 0) (y 1) (y 2)).trans (Eq.trans ?_ (resultOf_apply b x w s (y 0) (y 1) (y 2)).symm)
  rw [h0, h1, h2, h3]
  unfold refAt
  have hw (k : Fin 1024) : x (ix3 (y 0) (y 1) k) * weightOf (b (ix1 0)) (y 2).val (w (ix2 k ⟨(y 2).val / 2, by have := (y 2).isLt; change (y 2).val < 24576 at this; omega⟩))
      = ((16 : ℝ) : EReal) * (x (ix3 (y 0) (y 1) k) * refWeightOf (b (ix1 0)) (y 2).val (w (ix2 k ⟨(y 2).val / 2, by have := (y 2).isLt; change (y 2).val < 24576 at this; omega⟩))) := by
    have p := encoded_iff x w s b h (ix2 k ⟨(y 2).val / 2, by have := (y 2).isLt; change (y 2).val < 24576 at this; omega⟩)
    rw [weightOf_eq (b (ix1 0)) p.1 p.2.1 _ _ p.2.2]
    exact mul_left_comm (G := EReal) _ _ _
  refine Eq.trans ?_ (congrArg₂ (· * ·) (Finset.sum_congr rfl fun k _ => (hw k).symm) (congrArg (_ * ·) lit_sixteenth.symm))
  rw [real_mul_sum _ _ (by norm_num)]
  exact (sixteen_cancels _ _).symm

end Cert.Proof.Olive

end
-- ==== Proof.lean ====
/-
  THE CERTIFICATE. The frames are the generated ones; nothing was rewritten, so `preserves` is trivial; the value claim is the
  kernel's run (Proof/Array.lean `run`) beside the reference's, their results equal by Proof/Equation.lean `results_eq`.
-/
module

public import proofs.«01_k».proof.Defs
public import proofs.«01_k».proof.Proof.Equation
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments unchanged and every counter at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel and the reference end with equal results. -/
theorem value : Cert.algebraic_KernelIdeal_ReferenceIdeal_pre_encoded (hKernelIdeal := Cert.KernelIdeal.Gen.facts)
    (hReferenceIdeal := Cert.ReferenceIdeal.Gen.facts) (hPre_encoded := Olive.preFacts) := fun m ρ m' ρ' hpre hargs =>
  ⟨_, Olive.run m ρ, (θ_run Cert.ReferenceIdeal.defs _ _).mono
    (fun _ h c => ⟨(h c).1.trans (Olive.results_eq m' _ _ _ _ (hpre c) c (hargs c).1 (hargs c).2.1 (hargs c).2.2.1 (hargs c).2.2.2), (h c).2⟩)
    (Cert.ReferenceIdeal.Value.run (F := Ideal) m' ρ')⟩

/-- Every claim. -/
theorem claim : Cert.Claim :=
  ⟨Cert.Kernel.Gen.facts, Cert.KernelIdeal.Gen.facts, Cert.ReferenceIdeal.Gen.facts, Olive.preFacts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    value⟩

end Cert.Proof

end
